-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 1024]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S4x512x256 .f32) (main_arg1 : FVec F S4x128 .f32) (main_arg2 : FVec F S128x256 .f32) (main_arg3 : FVec F S128x256 .f32) : IVec S4x512x256 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  main_v2
-- ==== Pre_x_finite_ReferenceIdeal.lean ====
abbrev S4x512x1024 : Shape := ⟨3, ![4, 512, 1024]⟩
abbrev S4x128 : Shape := ⟨2, ![4, 128]⟩
abbrev S128x1024 : Shape := ⟨2, ![128, 1024]⟩
abbrev S_ : Shape := ⟨0, ![]⟩

class Facts : Prop where
  bcast_S_S4x512x1024 : S_.BroadcastsInDim S4x512x1024 (![] : Fin 0 → Fin S4x512x1024.rank)

variable [Facts]

def fn {F : FTy → Type} [FloatOps F] (main_arg0 : FVec F S4x512x1024 .f32) (main_arg1 : FVec F S4x128 .f32) (main_arg2 : FVec F S128x1024 .f32) (main_arg3 : FVec F S128x1024 .f32) : IVec S4x512x1024 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  main_v2
-- ==== Kernel.lean ====
abbrev S4x512x256 : Shape := ⟨3, ![4, 512, 256]⟩
abbrev S4x128 : Shape := ⟨2, ![4, 128]⟩
abbrev S128x256 : Shape := ⟨2, ![128, 256]⟩
abbrev S4x2x4x128 : Shape := ⟨4, ![4, 2, 4, 128]⟩
abbrev S4 : Shape := ⟨1, ![4]⟩
abbrev S3 : Shape := ⟨1, ![3]⟩
abbrev S4x3 : Shape := ⟨2, ![4, 3]⟩
abbrev S4x4 : Shape := ⟨2, ![4, 4]⟩
abbrev S1 : Shape := ⟨1, ![1]⟩
abbrev S_ : Shape := ⟨0, ![]⟩
abbrev S4x128x256 : Shape := ⟨3, ![4, 128, 256]⟩
abbrev S1x1x4x128 : Shape := ⟨4, ![1, 1, 4, 128]⟩
abbrev S1x1 : Shape := ⟨2, ![1, 1]⟩
abbrev S1x2x4x128 : Shape := ⟨4, ![1, 2, 4, 128]⟩
abbrev S2x4x128 : Shape := ⟨3, ![2, 4, 128]⟩
abbrev S4x256 : Shape := ⟨2, ![4, 256]⟩
abbrev S4x1x256 : Shape := ⟨3, ![4, 1, 256]⟩
abbrev S1x4x128 : Shape := ⟨3, ![1, 4, 128]⟩
abbrev S4x128x1 : Shape := ⟨3, ![4, 128, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .f32⟩
  | .local _ .vmem, ⟨0, _⟩ => ⟨S4x512x256, .f32⟩
  | .local _ .vmem, ⟨1, _⟩ => ⟨S4x512x256, .f32⟩
  | .local _ .vmem, ⟨2, _⟩ => ⟨S4x128, .f32⟩
  | .local _ .vmem, ⟨3, _⟩ => ⟨S128x256, .f32⟩
  | .local _ .vmem, ⟨4, _⟩ => ⟨S128x256, .f32⟩
  | .local _ .vmem, ⟨5, _⟩ => ⟨S4x2x4x128, .f32⟩
  | .local _ .vmem, ⟨6, _⟩ => ⟨S4x2x4x128, .f32⟩
  | .local _ .vmem, ⟨7, _⟩ => ⟨S4x2x4x128, .f32⟩
  | .local _ .vmem, ⟨8, _⟩ => ⟨S4x2x4x128, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v26 : BitVec 32 := Scalar.addi v2 c1_i32_25
  let c4_i32_26 : BitVec 32 := 4#32
  let c0_i32_27 : BitVec 32 := 0#32
  let v27 : BitVec 1 := Scalar.cmpi .eq c4_i32_26 c0_i32_27
  let c1_i32_28 : BitVec 32 := 1#32
  let v28 : BitVec 32 := Scalar.select v27 c1_i32_28 c4_i32_26
  let v29 : BitVec 32 := Scalar.remsi v26 v28
  let c0_i32_30 : BitVec 32 := 0#32
  let v31 : BitVec 1 := Scalar.cmpi .slt v29 c0_i32_30
  let c0_i32_31 : BitVec 32 := 0#32
  let v32 : BitVec 1 := Scalar.cmpi .slt v28 c0_i32_31
  let v33 : BitVec 1 := Scalar.xori v31 v32
  let c0_i32_29 : BitVec 32 := 0#32
  let v30 : BitVec 1 := Scalar.cmpi .ne v29 c0_i32_29
  let v34 : BitVec 1 := Scalar.andi v33 v30
  let v35 : BitVec 32 := Scalar.addi v29 v28
  let v36 : BitVec 32 := Scalar.select v34 v35 v29
  let c1_i32_33 : BitVec 32 := 1#32
  let v37 : BitVec 32 := Scalar.muli v36 c1_i32_33
  let v38 : BitVec 32 := Scalar.addi c0_i32_34 v37
  v38.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v39 : BitVec 32 := Scalar.addi v2 c2_i32_35
  let c4_i32_36 : BitVec 32 := 4#32
  let c0_i32_37 : BitVec 32 := 0#32
  let v40 : BitVec 1 := Scalar.cmpi .eq c4_i32_36 c0_i32_37
  let c1_i32_38 : BitVec 32 := 1#32
  let v41 : BitVec 32 := Scalar.select v40 c1_i32_38 c4_i32_36
  let v42 : BitVec 32 := Scalar.remsi v39 v41
  let c0_i32_40 : BitVec 32 := 0#32
  let v44 : BitVec 1 := Scalar.cmpi .slt v42 c0_i32_40
  let c0_i32_41 : BitVec 32 := 0#32
  let v45 : BitVec 1 := Scalar.cmpi .slt v41 c0_i32_41
  let v46 : BitVec 1 := Scalar.xori v44 v45
  let c0_i32_39 : BitVec 32 := 0#32
  let v43 : BitVec 1 := Scalar.cmpi .ne v42 c0_i32_39
  let v47 : BitVec 1 := Scalar.andi v46 v43
  let v48 : BitVec 32 := Scalar.addi v42 v41
  let v49 : BitVec 32 := Scalar.select v47 v48 v42
  let c1_i32_43 : BitVec 32 := 1#32
  let v50 : BitVec 32 := Scalar.muli v49 c1_i32_43
  let v51 : BitVec 32 := Scalar.addi c0_i32_44 v50
  v51.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v52 : BitVec 32 := Scalar.addi v2 c3_i32_45
  let c4_i32_46 : BitVec 32 := 4#32
  let c0_i32_47 : BitVec 32 := 0#32
  let v53 : BitVec 1 := Scalar.cmpi .eq c4_i32_46 c0_i32_47
  let c1_i32_48 : BitVec 32 := 1#32
  let v54 : BitVec 32 := Scalar.select v53 c1_i32_48 c4_i32_46
  let v55 : BitVec 32 := Scalar.remsi v52 v54
  let c0_i32_50 : BitVec 32 := 0#32
  let v57 : BitVec 1 := Scalar.cmpi .slt v55 c0_i32_50
  let c0_i32_51 : BitVec 32 := 0#32
  let v58 : BitVec 1 := Scalar.cmpi .slt v54 c0_i32_51
  let v59 : BitVec 1 := Scalar.xori v57 v58
  let c0_i32_49 : BitVec 32 := 0#32
  let v56 : BitVec 1 := Scalar.cmpi .ne v55 c0_i32_49
  let v60 : BitVec 1 := Scalar.andi v59 v56
  let v61 : BitVec 32 := Scalar.addi v55 v54
  let v62 : BitVec 32 := Scalar.select v60 v61 v55
  let c1_i32_53 : BitVec 32 := 1#32
  let v63 : BitVec 32 := Scalar.muli v62 c1_i32_53
  let v64 : BitVec 32 := Scalar.addi c0_i32_54 v63
  v64.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : Index := Scalar.indexCast v2
  let c0_64 : Index := 0#32
  let c0_65 : Index := 0#32
  let c0_66 : Index := 0#32
  ![v71.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : Index := Scalar.indexCast v2
  let c1 : Index := 1#32
  let c0_68 : Index := 0#32
  let c0_69 : Index := 0#32
  ![v77.toNat, 1, 0, 0]
def k0_off3 (d0 : Dev nD) : Fin 2 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_83 : BitVec 32 := 0#32
  let c0_i32_84 : BitVec 32 := 0#32
  let c0_i32_85 : BitVec 32 := 0#32
  ![v2.toNat, 0, 0, 0]
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v81 : BitVec 32 := Scalar.addi v2 c1_i32_71
  let c4_i32_72 : BitVec 32 := 4#32
  let c0_i32_73 : BitVec 32 := 0#32
  let v82 : BitVec 1 := Scalar.cmpi .eq c4_i32_72 c0_i32_73
  let c1_i32_74 : BitVec 32 := 1#32
  let v83 : BitVec 32 := Scalar.select v82 c1_i32_74 c4_i32_72
  let v84 : BitVec 32 := Scalar.remsi v81 v83
  let c0_i32_76 : BitVec 32 := 0#32
  let v86 : BitVec 1 := Scalar.cmpi .slt v84 c0_i32_76
  let c0_i32_77 : BitVec 32 := 0#32
  let v87 : BitVec 1 := Scalar.cmpi .slt v83 c0_i32_77
  let v88 : BitVec 1 := Scalar.xori v86 v87
  let c0_i32_75 : BitVec 32 := 0#32
  let v85 : BitVec 1 := Scalar.cmpi .ne v84 c0_i32_75
  let v89 : BitVec 1 := Scalar.andi v88 v85
  let v90 : BitVec 32 := Scalar.addi v84 v83
  let v91 : BitVec 32 := Scalar.select v89 v90 v84
  let c1_i32_81 : BitVec 32 := 1#32
  let v92 : BitVec 32 := Scalar.muli v91 c1_i32_81
  let v93 : BitVec 32 := Scalar.addi c0_i32_82 v92
  v93.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_89 : BitVec 32 := 2#32
  let v102 : BitVec 32 := Scalar.addi v2 c2_i32_89
  let c4_i32_90 : BitVec 32 := 4#32
  let c0_i32_91 : BitVec 32 := 0#32
  let v103 : BitVec 1 := Scalar.cmpi .eq c4_i32_90 c0_i32_91
  let c1_i32_92 : BitVec 32 := 1#32
  let v104 : BitVec 32 := Scalar.select v103 c1_i32_92 c4_i32_90
  let v105 : BitVec 32 := Scalar.remsi v102 v104
  let c0_i32_94 : BitVec 32 := 0#32
  let v107 : BitVec 1 := Scalar.cmpi .slt v105 c0_i32_94
  let c0_i32_95 : BitVec 32 := 0#32
  let v108 : BitVec 1 := Scalar.cmpi .slt v104 c0_i32_95
  let v109 : BitVec 1 := Scalar.xori v107 v108
  let c0_i32_93 : BitVec 32 := 0#32
  let v106 : BitVec 1 := Scalar.cmpi .ne v105 c0_i32_93
  let v110 : BitVec 1 := Scalar.andi v109 v106
  let v111 : BitVec 32 := Scalar.addi v105 v104
  let v112 : BitVec 32 := Scalar.select v110 v111 v105
  let c1_i32_99 : BitVec 32 := 1#32
  let v113 : BitVec 32 := Scalar.muli v112 c1_i32_99
  let v114 : BitVec 32 := Scalar.addi c0_i32_100 v113
  v114.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  let v123 : BitVec 32 := Scalar.addi v2 c3_i32_107
  let c4_i32_108 : BitVec 32 := 4#32
  let c0_i32_109 : BitVec 32 := 0#32
  let v124 : BitVec 1 := Scalar.cmpi .eq c4_i32_108 c0_i32_109
  let c1_i32_110 : BitVec 32 := 1#32
  let v125 : BitVec 32 := Scalar.select v124 c1_i32_110 c4_i32_108
  let v126 : BitVec 32 := Scalar.remsi v123 v125
  let c0_i32_112 : BitVec 32 := 0#32
  let v128 : BitVec 1 := Scalar.cmpi .slt v126 c0_i32_112
  let c0_i32_113 : BitVec 32 := 0#32
  let v129 : BitVec 1 := Scalar.cmpi .slt v125 c0_i32_113
  let v130 : BitVec 1 := Scalar.xori v128 v129
  let c0_i32_111 : BitVec 32 := 0#32
  let v127 : BitVec 1 := Scalar.cmpi .ne v126 c0_i32_111
  let v131 : BitVec 1 := Scalar.andi v130 v127
  let v132 : BitVec 32 := Scalar.addi v126 v125
  let v133 : BitVec 32 := Scalar.select v131 v132 v126
  let c1_i32_117 : BitVec 32 := 1#32
  let v134 : BitVec 32 := Scalar.muli v133 c1_i32_117
  let v135 : BitVec 32 := Scalar.addi c0_i32_118 v134
  v135.toNat
def k0_off5 (d0 : Dev nD) : Fin 2 → Nat :=
  let c1_i32_149 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_142 : BitVec 32 := 1#32
  let v160 : BitVec 32 := Scalar.addi v2 c1_i32_142
  let c4_i32_143 : BitVec 32 := 4#32
  let c0_i32_144 : BitVec 32 := 0#32
  let v161 : BitVec 1 := Scalar.cmpi .eq c4_i32_143 c0_i32_144
  let c1_i32_145 : BitVec 32 := 1#32
  let v162 : BitVec 32 := Scalar.select v161 c1_i32_145 c4_i32_143
  let v163 : BitVec 32 := Scalar.remsi v160 v162
  let c0_i32_147 : BitVec 32 := 0#32
  let v165 : BitVec 1 := Scalar.cmpi .slt v163 c0_i32_147
  let c0_i32_148 : BitVec 32 := 0#32
  let v166 : BitVec 1 := Scalar.cmpi .slt v162 c0_i32_148
  let v167 : BitVec 1 := Scalar.xori v165 v166
  let c0_i32_146 : BitVec 32 := 0#32
  let v164 : BitVec 1 := Scalar.cmpi .ne v163 c0_i32_146
  let v168 : BitVec 1 := Scalar.andi v167 v164
  let v169 : BitVec 32 := Scalar.addi v163 v162
  let v170 : BitVec 32 := Scalar.select v168 v169 v163
  let c1_i32_152 : BitVec 32 := 1#32
  let v171 : BitVec 32 := Scalar.muli v170 c1_i32_152
  let v172 : BitVec 32 := Scalar.addi c0_i32_153 v171
  v172.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_160 : BitVec 32 := 2#32
  let v181 : BitVec 32 := Scalar.addi v2 c2_i32_160
  let c4_i32_161 : BitVec 32 := 4#32
  let c0_i32_162 : BitVec 32 := 0#32
  let v182 : BitVec 1 := Scalar.cmpi .eq c4_i32_161 c0_i32_162
  let c1_i32_163 : BitVec 32 := 1#32
  let v183 : BitVec 32 := Scalar.select v182 c1_i32_163 c4_i32_161
  let v184 : BitVec 32 := Scalar.remsi v181 v183
  let c0_i32_165 : BitVec 32 := 0#32
  let v186 : BitVec 1 := Scalar.cmpi .slt v184 c0_i32_165
  let c0_i32_166 : BitVec 32 := 0#32
  let v187 : BitVec 1 := Scalar.cmpi .slt v183 c0_i32_166
  let v188 : BitVec 1 := Scalar.xori v186 v187
  let c0_i32_164 : BitVec 32 := 0#32
  let v185 : BitVec 1 := Scalar.cmpi .ne v184 c0_i32_164
  let v189 : BitVec 1 := Scalar.andi v188 v185
  let v190 : BitVec 32 := Scalar.addi v184 v183
  let v191 : BitVec 32 := Scalar.select v189 v190 v184
  let c1_i32_170 : BitVec 32 := 1#32
  let v192 : BitVec 32 := Scalar.muli v191 c1_i32_170
  let v193 : BitVec 32 := Scalar.addi c0_i32_171 v192
  v193.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_178 : BitVec 32 := 3#32
  let v202 : BitVec 32 := Scalar.addi v2 c3_i32_178
  let c4_i32_179 : BitVec 32 := 4#32
  let c0_i32_180 : BitVec 32 := 0#32
  let v203 : BitVec 1 := Scalar.cmpi .eq c4_i32_179 c0_i32_180
  let c1_i32_181 : BitVec 32 := 1#32
  let v204 : BitVec 32 := Scalar.select v203 c1_i32_181 c4_i32_179
  let v205 : BitVec 32 := Scalar.remsi v202 v204
  let c0_i32_183 : BitVec 32 := 0#32
  let v207 : BitVec 1 := Scalar.cmpi .slt v205 c0_i32_183
  let c0_i32_184 : BitVec 32 := 0#32
  let v208 : BitVec 1 := Scalar.cmpi .slt v204 c0_i32_184
  let v209 : BitVec 1 := Scalar.xori v207 v208
  let c0_i32_182 : BitVec 32 := 0#32
  let v206 : BitVec 1 := Scalar.cmpi .ne v205 c0_i32_182
  let v210 : BitVec 1 := Scalar.andi v209 v206
  let v211 : BitVec 32 := Scalar.addi v205 v204
  let v212 : BitVec 32 := Scalar.select v210 v211 v205
  let c1_i32_188 : BitVec 32 := 1#32
  let v213 : BitVec 32 := Scalar.muli v212 c1_i32_188
  let v214 : BitVec 32 := Scalar.addi c0_i32_189 v213
  v214.toNat
def k0_off6 (d0 : Dev nD) : Fin 2 → Nat :=
  let c2_i32_220 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_213 : BitVec 32 := 1#32
  let v239 : BitVec 32 := Scalar.addi v2 c1_i32_213
  let c4_i32_214 : BitVec 32 := 4#32
  let c0_i32_215 : BitVec 32 := 0#32
  let v240 : BitVec 1 := Scalar.cmpi .eq c4_i32_214 c0_i32_215
  let c1_i32_216 : BitVec 32 := 1#32
  let v241 : BitVec 32 := Scalar.select v240 c1_i32_216 c4_i32_214
  let v242 : BitVec 32 := Scalar.remsi v239 v241
  let c0_i32_218 : BitVec 32 := 0#32
  let v244 : BitVec 1 := Scalar.cmpi .slt v242 c0_i32_218
  let c0_i32_219 : BitVec 32 := 0#32
  let v245 : BitVec 1 := Scalar.cmpi .slt v241 c0_i32_219
  let v246 : BitVec 1 := Scalar.xori v244 v245
  let c0_i32_217 : BitVec 32 := 0#32
  let v243 : BitVec 1 := Scalar.cmpi .ne v242 c0_i32_217
  let v247 : BitVec 1 := Scalar.andi v246 v243
  let v248 : BitVec 32 := Scalar.addi v242 v241
  let v249 : BitVec 32 := Scalar.select v247 v248 v242
  let c1_i32_223 : BitVec 32 := 1#32
  let v250 : BitVec 32 := Scalar.muli v249 c1_i32_223
  let v251 : BitVec 32 := Scalar.addi c0_i32_224 v250
  v251.toNat
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_231 : BitVec 32 := 2#32
  let v260 : BitVec 32 := Scalar.addi v2 c2_i32_231
  let c4_i32_232 : BitVec 32 := 4#32
  let c0_i32_233 : BitVec 32 := 0#32
  let v261 : BitVec 1 := Scalar.cmpi .eq c4_i32_232 c0_i32_233
  let c1_i32_234 : BitVec 32 := 1#32
  let v262 : BitVec 32 := Scalar.select v261 c1_i32_234 c4_i32_232
  let v263 : BitVec 32 := Scalar.remsi v260 v262
  let c0_i32_236 : BitVec 32 := 0#32
  let v265 : BitVec 1 := Scalar.cmpi .slt v263 c0_i32_236
  let c0_i32_237 : BitVec 32 := 0#32
  let v266 : BitVec 1 := Scalar.cmpi .slt v262 c0_i32_237
  let v267 : BitVec 1 := Scalar.xori v265 v266
  let c0_i32_235 : BitVec 32 := 0#32
  let v264 : BitVec 1 := Scalar.cmpi .ne v263 c0_i32_235
  let v268 : BitVec 1 := Scalar.andi v267 v264
  let v269 : BitVec 32 := Scalar.addi v263 v262
  let v270 : BitVec 32 := Scalar.select v268 v269 v263
  let c1_i32_241 : BitVec 32 := 1#32
  let v271 : BitVec 32 := Scalar.muli v270 c1_i32_241
  let v272 : BitVec 32 := Scalar.addi c0_i32_242 v271
  v272.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_249 : BitVec 32 := 3#32
  let v281 : BitVec 32 := Scalar.addi v2 c3_i32_249
  let c4_i32_250 : BitVec 32 := 4#32
  let c0_i32_251 : BitVec 32 := 0#32
  let v282 : BitVec 1 := Scalar.cmpi .eq c4_i32_250 c0_i32_251
  let c1_i32_252 : BitVec 32 := 1#32
  let v283 : BitVec 32 := Scalar.select v282 c1_i32_252 c4_i32_250
  let v284 : BitVec 32 := Scalar.remsi v281 v283
  let c0_i32_254 : BitVec 32 := 0#32
  let v286 : BitVec 1 := Scalar.cmpi .slt v284 c0_i32_254
  let c0_i32_255 : BitVec 32 := 0#32
  let v287 : BitVec 1 := Scalar.cmpi .slt v283 c0_i32_255
  let v288 : BitVec 1 := Scalar.xori v286 v287
  let c0_i32_253 : BitVec 32 := 0#32
  let v285 : BitVec 1 := Scalar.cmpi .ne v284 c0_i32_253
  let v289 : BitVec 1 := Scalar.andi v288 v285
  let v290 : BitVec 32 := Scalar.addi v284 v283
  let v291 : BitVec 32 := Scalar.select v289 v290 v284
  let c1_i32_259 : BitVec 32 := 1#32
  let v292 : BitVec 32 := Scalar.muli v291 c1_i32_259
  let v293 : BitVec 32 := Scalar.addi c0_i32_260 v292
  v293.toNat
def k0_off7 (d0 : Dev nD) : Fin 2 → Nat :=
  let c3_i32_291 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_dev13 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_284 : BitVec 32 := 1#32
  let v318 : BitVec 32 := Scalar.addi v2 c1_i32_284
  let c4_i32_285 : BitVec 32 := 4#32
  let c0_i32_286 : BitVec 32 := 0#32
  let v319 : BitVec 1 := Scalar.cmpi .eq c4_i32_285 c0_i32_286
  let c1_i32_287 : BitVec 32 := 1#32
  let v320 : BitVec 32 := Scalar.select v319 c1_i32_287 c4_i32_285
  let v321 : BitVec 32 := Scalar.remsi v318 v320
  let c0_i32_289 : BitVec 32 := 0#32
  let v323 : BitVec 1 := Scalar.cmpi .slt v321 c0_i32_289
  let c0_i32_290 : BitVec 32 := 0#32
  let v324 : BitVec 1 := Scalar.cmpi .slt v320 c0_i32_290
  let v325 : BitVec 1 := Scalar.xori v323 v324
  let c0_i32_288 : BitVec 32 := 0#32
  let v322 : BitVec 1 := Scalar.cmpi .ne v321 c0_i32_288
  let v326 : BitVec 1 := Scalar.andi v325 v322
  let v327 : BitVec 32 := Scalar.addi v321 v320
  let v328 : BitVec 32 := Scalar.select v326 v327 v321
  let c1_i32_294 : BitVec 32 := 1#32
  let v329 : BitVec 32 := Scalar.muli v328 c1_i32_294
  let v330 : BitVec 32 := Scalar.addi c0_i32_295 v329
  v330.toNat
def k0_dev14 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_302 : BitVec 32 := 2#32
  let v339 : BitVec 32 := Scalar.addi v2 c2_i32_302
  let c4_i32_303 : BitVec 32 := 4#32
  let c0_i32_304 : BitVec 32 := 0#32
  let v340 : BitVec 1 := Scalar.cmpi .eq c4_i32_303 c0_i32_304
  let c1_i32_305 : BitVec 32 := 1#32
  let v341 : BitVec 32 := Scalar.select v340 c1_i32_305 c4_i32_303
  let v342 : BitVec 32 := Scalar.remsi v339 v341
  let c0_i32_307 : BitVec 32 := 0#32
  let v344 : BitVec 1 := Scalar.cmpi .slt v342 c0_i32_307
  let c0_i32_308 : BitVec 32 := 0#32
  let v345 : BitVec 1 := Scalar.cmpi .slt v341 c0_i32_308
  let v346 : BitVec 1 := Scalar.xori v344 v345
  let c0_i32_306 : BitVec 32 := 0#32
  let v343 : BitVec 1 := Scalar.cmpi .ne v342 c0_i32_306
  let v347 : BitVec 1 := Scalar.andi v346 v343
  let v348 : BitVec 32 := Scalar.addi v342 v341
  let v349 : BitVec 32 := Scalar.select v347 v348 v342
  let c1_i32_312 : BitVec 32 := 1#32
  let v350 : BitVec 32 := Scalar.muli v349 c1_i32_312
  let v351 : BitVec 32 := Scalar.addi c0_i32_313 v350
  v351.toNat
def k0_dev15 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_320 : BitVec 32 := 3#32
  let v360 : BitVec 32 := Scalar.addi v2 c3_i32_320
  let c4_i32_321 : BitVec 32 := 4#32
  let c0_i32_322 : BitVec 32 := 0#32
  let v361 : BitVec 1 := Scalar.cmpi .eq c4_i32_321 c0_i32_322
  let c1_i32_323 : BitVec 32 := 1#32
  let v362 : BitVec 32 := Scalar.select v361 c1_i32_323 c4_i32_321
  let v363 : BitVec 32 := Scalar.remsi v360 v362
  let c0_i32_325 : BitVec 32 := 0#32
  let v365 : BitVec 1 := Scalar.cmpi .slt v363 c0_i32_325
  let c0_i32_326 : BitVec 32 := 0#32
  let v366 : BitVec 1 := Scalar.cmpi .slt v362 c0_i32_326
  let v367 : BitVec 1 := Scalar.xori v365 v366
  let c0_i32_324 : BitVec 32 := 0#32
  let v364 : BitVec 1 := Scalar.cmpi .ne v363 c0_i32_324
  let v368 : BitVec 1 := Scalar.andi v367 v364
  let v369 : BitVec 32 := Scalar.addi v363 v362
  let v370 : BitVec 32 := Scalar.select v368 v369 v363
  let c1_i32_330 : BitVec 32 := 1#32
  let v371 : BitVec 32 := Scalar.muli v370 c1_i32_330
  let v372 : BitVec 32 := Scalar.addi c0_i32_331 v371
  v372.toNat
def k0_off8 (d0 : Dev nD) (c1_i32_352 : BitVec 32) : Fin 2 → Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v397 : BitVec 32 := Scalar.addi v2 c1_i32_352
  let c4_i32_353 : BitVec 32 := 4#32
  let c0_i32_354 : BitVec 32 := 0#32
  let v398 : BitVec 1 := Scalar.cmpi .eq c4_i32_353 c0_i32_354
  let c1_i32_355 : BitVec 32 := 1#32
  let v399 : BitVec 32 := Scalar.select v398 c1_i32_355 c4_i32_353
  let v400 : BitVec 32 := Scalar.remsi v397 v399
  let c0_i32_357 : BitVec 32 := 0#32
  let v402 : BitVec 1 := Scalar.cmpi .slt v400 c0_i32_357
  let c0_i32_358 : BitVec 32 := 0#32
  let v403 : BitVec 1 := Scalar.cmpi .slt v399 c0_i32_358
  let v404 : BitVec 1 := Scalar.xori v402 v403
  let c0_i32_356 : BitVec 32 := 0#32
  let v401 : BitVec 1 := Scalar.cmpi .ne v400 c0_i32_356
  let v405 : BitVec 1 := Scalar.andi v404 v401
  let v406 : BitVec 32 := Scalar.addi v400 v399
  let v407 : BitVec 32 := Scalar.select v405 v406 v400
  ![0, v407.toNat]
def k0_off9 (d0 : Dev nD) (c1_i32_352 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v397 : BitVec 32 := Scalar.addi v2 c1_i32_352
  let c4_i32_353 : BitVec 32 := 4#32
  let c0_i32_354 : BitVec 32 := 0#32
  let v398 : BitVec 1 := Scalar.cmpi .eq c4_i32_353 c0_i32_354
  let c1_i32_355 : BitVec 32 := 1#32
  let v399 : BitVec 32 := Scalar.select v398 c1_i32_355 c4_i32_353
  let v400 : BitVec 32 := Scalar.remsi v397 v399
  let c0_i32_357 : BitVec 32 := 0#32
  let v402 : BitVec 1 := Scalar.cmpi .slt v400 c0_i32_357
  let c0_i32_358 : BitVec 32 := 0#32
  let v403 : BitVec 1 := Scalar.cmpi .slt v399 c0_i32_358
  let v404 : BitVec 1 := Scalar.xori v402 v403
  let c0_i32_356 : BitVec 32 := 0#32
  let v401 : BitVec 1 := Scalar.cmpi .ne v400 c0_i32_356
  let v405 : BitVec 1 := Scalar.andi v404 v401
  let v406 : BitVec 32 := Scalar.addi v400 v399
  let v407 : BitVec 32 := Scalar.select v405 v406 v400
  let c0_i32_364 : BitVec 32 := 0#32
  let c0_i32_365 : BitVec 32 := 0#32
  let c0_i32_366 : BitVec 32 := 0#32
  ![v407.toNat, 0, 0, 0]
def k0_off10 (d0 : Dev nD) (c1_i32_429 : BitVec 32) : Fin 2 → Nat :=
  let c1_i32_436 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v490 : BitVec 32 := Scalar.addi v2 c1_i32_429
  let c4_i32_430 : BitVec 32 := 4#32
  let c0_i32_431 : BitVec 32 := 0#32
  let v491 : BitVec 1 := Scalar.cmpi .eq c4_i32_430 c0_i32_431
  let c1_i32_432 : BitVec 32 := 1#32
  let v492 : BitVec 32 := Scalar.select v491 c1_i32_432 c4_i32_430
  let v493 : BitVec 32 := Scalar.remsi v490 v492
  let c0_i32_434 : BitVec 32 := 0#32
  let v495 : BitVec 1 := Scalar.cmpi .slt v493 c0_i32_434
  let c0_i32_435 : BitVec 32 := 0#32
  let v496 : BitVec 1 := Scalar.cmpi .slt v492 c0_i32_435
  let v497 : BitVec 1 := Scalar.xori v495 v496
  let c0_i32_433 : BitVec 32 := 0#32
  let v494 : BitVec 1 := Scalar.cmpi .ne v493 c0_i32_433
  let v498 : BitVec 1 := Scalar.andi v497 v494
  let v499 : BitVec 32 := Scalar.addi v493 v492
  let v500 : BitVec 32 := Scalar.select v498 v499 v493
  ![1, v500.toNat]
def k0_off11 (d0 : Dev nD) (c1_i32_508 : BitVec 32) : Fin 2 → Nat :=
  let c2_i32_515 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v583 : BitVec 32 := Scalar.addi v2 c1_i32_508
  let c4_i32_509 : BitVec 32 := 4#32
  let c0_i32_510 : BitVec 32 := 0#32
  let v584 : BitVec 1 := Scalar.cmpi .eq c4_i32_509 c0_i32_510
  let c1_i32_511 : BitVec 32 := 1#32
  let v585 : BitVec 32 := Scalar.select v584 c1_i32_511 c4_i32_509
  let v586 : BitVec 32 := Scalar.remsi v583 v585
  let c0_i32_513 : BitVec 32 := 0#32
  let v588 : BitVec 1 := Scalar.cmpi .slt v586 c0_i32_513
  let c0_i32_514 : BitVec 32 := 0#32
  let v589 : BitVec 1 := Scalar.cmpi .slt v585 c0_i32_514
  let v590 : BitVec 1 := Scalar.xori v588 v589
  let c0_i32_512 : BitVec 32 := 0#32
  let v587 : BitVec 1 := Scalar.cmpi .ne v586 c0_i32_512
  let v591 : BitVec 1 := Scalar.andi v590 v587
  let v592 : BitVec 32 := Scalar.addi v586 v585
  let v593 : BitVec 32 := Scalar.select v591 v592 v586
  ![2, v593.toNat]
def k0_off12 (d0 : Dev nD) (c1_i32_587 : BitVec 32) : Fin 2 → Nat :=
  let c3_i32_594 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v676 : BitVec 32 := Scalar.addi v2 c1_i32_587
  let c4_i32_588 : BitVec 32 := 4#32
  let c0_i32_589 : BitVec 32 := 0#32
  let v677 : BitVec 1 := Scalar.cmpi .eq c4_i32_588 c0_i32_589
  let c1_i32_590 : BitVec 32 := 1#32
  let v678 : BitVec 32 := Scalar.select v677 c1_i32_590 c4_i32_588
  let v679 : BitVec 32 := Scalar.remsi v676 v678
  let c0_i32_592 : BitVec 32 := 0#32
  let v681 : BitVec 1 := Scalar.cmpi .slt v679 c0_i32_592
  let c0_i32_593 : BitVec 32 := 0#32
  let v682 : BitVec 1 := Scalar.cmpi .slt v678 c0_i32_593
  let v683 : BitVec 1 := Scalar.xori v681 v682
  let c0_i32_591 : BitVec 32 := 0#32
  let v680 : BitVec 1 := Scalar.cmpi .ne v679 c0_i32_591
  let v684 : BitVec 1 := Scalar.andi v683 v680
  let v685 : BitVec 32 := Scalar.addi v679 v678
  let v686 : BitVec 32 := Scalar.select v684 v685 v679
  ![3, v686.toNat]
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x1024 : Shape := ⟨3, ![4, 512, 1024]⟩
abbrev S4x128 : Shape := ⟨2, ![4, 128]⟩
abbrev S128x1024 : Shape := ⟨2, ![128, 1024]⟩
abbrev S_ : Shape := ⟨0, ![]⟩
abbrev S4x512 : Shape := ⟨2, ![4, 512]⟩
abbrev S4x512x1 : Shape := ⟨3, ![4, 512, 1]⟩
abbrev S4x1024 : Shape := ⟨2, ![4, 1024]⟩
abbrev S4x1x1024 : Shape := ⟨3, ![4, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x128, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x1024, .f32⟩
  | .hbm, ⟨18, _⟩ => ⟨S4x512x1024, .f32⟩
  | .hbm, ⟨19, _⟩ => ⟨S4x512x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x1024, .f32⟩
  | .hbm, ⟨35, _⟩ => ⟨S4x512x1024, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x1024, .f32⟩
  | .hbm, ⟨41, _⟩ => ⟨S4x512x1024, .f32⟩
  | .hbm, ⟨42, _⟩ => ⟨S4x1024, .f32⟩
  | .hbm, ⟨43, _⟩ => ⟨S4x1024, .f32⟩
  | .hbm, ⟨44, _⟩ => ⟨S4x1x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x512x1024, .f32⟩
  | .hbm, ⟨49, _⟩ => ⟨S4x512x1024, .f32⟩
  | .hbm, ⟨50, _⟩ => ⟨S4x1x1024, .f32⟩
  | .hbm, ⟨51, _⟩ => ⟨S4x512x1024, .f32⟩
  | .hbm, ⟨52, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Body.lean ====
/-
The kernel's body as twelve phases, each a function of the piece it works on.

The printed body is one straight line cut at arbitrary places. Here it is written again as a short program
over the piece `p` (a quarter of the rows) and the peer `k` (the device `k + 1` places further on the ring),
and shown to be the printed one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Norm

open Cert.KernelIdeal Cert.KernelIdeal.Gen
open Idealize.ShloMosaic Idealize.ShloMosaic.TcCoe
open Idealize.SL.Sem

variable {F : FTy → Type} [FloatOps F]

/-! ## Buffers -/

/-- The copy of this device's block of `x` in fast memory, and the other operands' copies. -/
abbrev xV : Memref sig .tc .vmem S4x512x256 .f32 := Memref.whole cc0_scratch0
abbrev tV : Memref sig .tc .vmem S4x128 .f32 := Memref.whole cc0_scratch1
abbrev aV : Memref sig .tc .vmem S128x256 .f32 := Memref.whole cc0_scratch2
abbrev bV : Memref sig .tc .vmem S128x256 .f32 := Memref.whole cc0_scratch3
/-- The operands where they arrive. -/
abbrev xA : Memref sig .tc .hbm S4x512x256 .f32 := Memref.whole main_arg0
abbrev tA : Memref sig .tc .hbm S4x128 .f32 := Memref.whole main_arg1
abbrev aA : Memref sig .tc .hbm S128x256 .f32 := Memref.whole main_arg2
abbrev bA : Memref sig .tc .hbm S128x256 .f32 := Memref.whole main_arg3
/-- The output block. -/
abbrev oV : Memref sig .tc .vmem S4x512x256 .f32 := Memref.whole cc0_stg0_0

/-- The statistics buffer of piece `p`: one slot per device, in it the row sums and the row sums of squares. -/
def stat (p : Fin 4) : Memref sig .tc .vmem S4x2x4x128 .f32 :=
  match p with
  | 0 => Memref.whole cc0_scratch4
  | 1 => Memref.whole cc0_scratch5
  | 2 => Memref.whole cc0_scratch6
  | 3 => Memref.whole cc0_scratch7

/-! ## Rectangles -/

theorem piece_inb (p : Fin 4) : ∀ a, (![0, 128 * p.val, 0] : Fin 3 → Nat) a + S4x128x256.size a ≤ S4x512x256.size a := by
  revert p; decide
/-- The rows of piece `p`. -/
abbrev pieceR (p : Fin 4) : Rect S4x512x256 := Rect.unit (s := S4x512x256) ![0, 128 * p.val, 0] S4x128x256.size (piece_inb p)
abbrev xP (p : Fin 4) : Memref sig .tc .vmem S4x128x256 .f32 := xV.slice (pieceR p) (fun _ => rfl)
abbrev xH (p : Fin 4) : Memref sig .tc .hbm S4x128x256 .f32 := xA.slice (pieceR p) (fun _ => rfl)

theorem slot_inb (j : Fin 4) : ∀ a, (![j.val, 0, 0, 0] : Fin 4 → Nat) a + S1x2x4x128.size a ≤ S4x2x4x128.size a := by
  revert j; decide
/-- Device `j`'s slot of a statistics buffer. -/
abbrev slotR (j : Fin 4) : Rect S4x2x4x128 := Rect.unit (s := S4x2x4x128) ![j.val, 0, 0, 0] S1x2x4x128.size (slot_inb j)

theorem row_inb (j : Fin 4) (q : Fin 2) : ∀ a, (![j.val, q.val, 0, 0] : Fin 4 → Nat) a + S1x1x4x128.size a ≤ S4x2x4x128.size a := by
  revert j q; decide
/-- One of the two rows of device `j`'s slot. -/
abbrev rowR (j : Fin 4) (q : Fin 2) : Rect S4x2x4x128 := Rect.unit (s := S4x2x4x128) ![j.val, q.val, 0, 0] S1x1x4x128.size (row_inb j q)

/-- A slot at an offset, with its leading axis of one dropped: what a transfer moves. -/
abbrev slotAt (p : Fin 4) (off : Fin 4 → Nat) (h : ∀ a, off a + S1x2x4x128.size a ≤ S4x2x4x128.size a) : Memref sig .tc .vmem S2x4x128 .f32 :=
  ((stat p).slice (Rect.unit (s := S4x2x4x128) off S1x2x4x128.size h) (fun _ => rfl)).squeeze S2x4x128 squeezes_S1x2x4x128_S2x4x128

/-! ## Semaphores -/

abbrev barS : Sem sig := (SemArray.scalar (sig.barrier 0 rfl) : Sems sig S_).sem
/-- The semaphores the copies of `x`'s pieces and of the other operands complete on, -/
def inS (p : Fin 4) : DmaSem sig := ⟨1 + p.val, by have := p.isLt; show 1 + p.val < 36; omega⟩
def opS (i : Fin 3) : DmaSem sig := ⟨5 + i.val, by have := i.isLt; show 5 + i.val < 36; omega⟩
/-- the one of piece `p`'s transfer to peer `k` at its source, -/
def sndS (p : Fin 4) (k : Fin 3) : DmaSem sig := ⟨8 + (3 * p.val + k.val), by have := p.isLt; have := k.isLt; show 8 + (3 * p.val + k.val) < 36; omega⟩
/-- and the one of piece `p`'s transfer from device `j` at its destination. -/
def rcvS (p j : Fin 4) : DmaSem sig := ⟨20 + (4 * p.val + j.val), by have := p.isLt; have := j.isLt; show 20 + (4 * p.val + j.val) < 36; omega⟩

/-- The receive semaphore as a transfer of piece `p` names it, -/
def rcvOff (p : Fin 4) (d : Dev nD) : DmaSem sig :=
  match p with
  | 0 => ((cc0_scratch11.slice (Rect.unit (s := S4x4) (k0_off3 d) S1x1.size (k0_off3_inb d))).squeeze S_ squeezes_S1x1_S_).sem
  | 1 => ((cc0_scratch11.slice (Rect.unit (s := S4x4) (k0_off5 d) S1x1.size (k0_off5_inb d))).squeeze S_ squeezes_S1x1_S_).sem
  | 2 => ((cc0_scratch11.slice (Rect.unit (s := S4x4) (k0_off6 d) S1x1.size (k0_off6_inb d))).squeeze S_ squeezes_S1x1_S_).sem
  | 3 => ((cc0_scratch11.slice (Rect.unit (s := S4x4) (k0_off7 d) S1x1.size (k0_off7_inb d))).squeeze S_ squeezes_S1x1_S_).sem

/-- The word `k + 1`. -/
abbrev word (k : Fin 3) : BitVec 32 := BitVec.ofNat 32 (1 + k.val)

/-- and as the wait for piece `p` from the peer `k + 1` places further names it. -/
def rcvWait (p : Fin 4) (d : Dev nD) (k : Fin 3) : DmaSem sig :=
  match p with
  | 0 => ((cc0_scratch11.slice (Rect.unit (s := S4x4) (k0_off8 d (word k)) S1x1.size (k0_off8_inb d k))).squeeze S_ squeezes_S1x1_S_).sem
  | 1 => ((cc0_scratch11.slice (Rect.unit (s := S4x4) (k0_off10 d (word k)) S1x1.size (k0_off10_inb d k))).squeeze S_ squeezes_S1x1_S_).sem
  | 2 => ((cc0_scratch11.slice (Rect.unit (s := S4x4) (k0_off11 d (word k)) S1x1.size (k0_off11_inb d k))).squeeze S_ squeezes_S1x1_S_).sem
  | 3 => ((cc0_scratch11.slice (Rect.unit (s := S4x4) (k0_off12 d (word k)) S1x1.size (k0_off12_inb d k))).squeeze S_ squeezes_S1x1_S_).sem

/-! ## Devices -/

/-- The device the first handshake's signal `k` names, and the one the transfer of piece `p` to peer `k` names. -/
def sigDev (k : Fin 3) (d : Dev nD) : Dev nD :=
  match k with
  | 0 => ⟨k0_dev1 d, k0_dev1_lt d⟩
  | 1 => ⟨k0_dev2 d, k0_dev2_lt d⟩
  | 2 => ⟨k0_dev3 d, k0_dev3_lt d⟩
def sndDev (p : Fin 4) (k : Fin 3) (d : Dev nD) : Dev nD :=
  match p, k with
  | 0, 0 => ⟨k0_dev4 d, k0_dev4_lt d⟩
  | 0, 1 => ⟨k0_dev5 d, k0_dev5_lt d⟩
  | 0, 2 => ⟨k0_dev6 d, k0_dev6_lt d⟩
  | 1, 0 => ⟨k0_dev7 d, k0_dev7_lt d⟩
  | 1, 1 => ⟨k0_dev8 d, k0_dev8_lt d⟩
  | 1, 2 => ⟨k0_dev9 d, k0_dev9_lt d⟩
  | 2, 0 => ⟨k0_dev10 d, k0_dev10_lt d⟩
  | 2, 1 => ⟨k0_dev11 d, k0_dev11_lt d⟩
  | 2, 2 => ⟨k0_dev12 d, k0_dev12_lt d⟩
  | 3, 0 => ⟨k0_dev13 d, k0_dev13_lt d⟩
  | 3, 1 => ⟨k0_dev14 d, k0_dev14_lt d⟩
  | 3, 2 => ⟨k0_dev15 d, k0_dev15_lt d⟩

/-! ## The phases -/

abbrev Prg (F : FTy → Type) [FloatOps F] (α : Type) : Type 1 := Prog (TpuEff nD τ sig (Elt F) Λ₀ .tc) α

/-- Start the copy of piece `p` of `x`. -/
def copyX (p : Fin 4) : Prg F PUnit :=
  Prog.lift (.enqueueDma (xH p) (.here (xP p)) (.dma (inS p)) (View.wordExact_bits rfl) (View.wordExact_bits rfl) ⟨Or.inl rfl, trivial⟩)

/-- Start the copy of one of the other operands. -/
def copyOp {s : Shape} (src : Memref sig .tc .hbm s .f32) (dst : Memref sig .tc .vmem s .f32) (hs : src.view.WordExact) (hd : dst.view.WordExact) (i : Fin 3) : Prg F PUnit :=
  Prog.lift (.enqueueDma src (.here dst) (.dma (opS i)) hs hd ⟨Or.inl rfl, trivial⟩)

/-- Signal peer `k` that this device has entered the kernel. -/
def signal (k : Fin 3) (d : Dev nD) : Prg F PUnit := semSignalWord (sigDev k d) barS 1#32

/-- Wait for piece `p` and leave its row sums and row sums of squares in this device's slot. -/
def stats (p : Fin 4) (d : Dev nD) : Prg F PUnit := do
  Prog.lift (.waitDma2 (inS p) (xH p) (xP p) (View.wordExact_bits rfl) (View.wordExact_bits rfl))
  let x : Vec F S4x128x256 .f32 ← Prog.lift (.load xV (pieceR p).toLoadRect (View.loadsAt_vmem h_S4x128x256))
  let _ : Vec F S1x1x4x128 .f32 ← Prog.lift (.load (stat p) (Rect.unit (s := S4x2x4x128) (k0_off1 d) S1x1x4x128.size (k0_off1_inb d)).toLoadRect (View.loadsAt_vmem h_S1x1x4x128))
  Prog.lift (.store (stat p) (Rect.unit (s := S4x2x4x128) (k0_off1 d) S1x1x4x128.size (k0_off1_inb d)) (k0_pay1 x) Finset.univ (View.stores_vmem_bits_univ h_S1x1x4x128 rfl) (.inl rfl))
  let _ : Vec F S1x1x4x128 .f32 ← Prog.lift (.load (stat p) (Rect.unit (s := S4x2x4x128) (k0_off2 d) S1x1x4x128.size (k0_off2_inb d)).toLoadRect (View.loadsAt_vmem h_S1x1x4x128))
  Prog.lift (.store (stat p) (Rect.unit (s := S4x2x4x128) (k0_off2 d) S1x1x4x128.size (k0_off2_inb d)) (k0_pay2 x) Finset.univ (View.stores_vmem_bits_univ h_S1x1x4x128 rfl) (.inl rfl))

/-- Send this device's slot of piece `p` to device `n`, to complete there on `q`; -/
def sendTo (p : Fin 4) (k : Fin 3) (d n : Dev nD) (q : DmaSem sig) : Prg F PUnit :=
  Prog.lift (.enqueueDma (slotAt p (k0_off4 d) (k0_off4_inb d)) (.remote (Dev.tc n) (slotAt p (k0_off4 d) (k0_off4_inb d)) (.dma (sndS p k)))
    (.dma q) ((View.wordExact_bits rfl).reshape _ _) ((View.wordExact_bits rfl).reshape _ _) ⟨⟨rfl, Or.inl rfl⟩, trivial⟩)
/-- to peer `k`. -/
def send (p : Fin 4) (k : Fin 3) (d : Dev nD) : Prg F PUnit := sendTo p k d (sndDev p k d) (rcvOff p d)

/-- Wait for one of the other operands. -/
def waitOp {s : Shape} (src : Memref sig .tc .hbm s .f32) (dst : Memref sig .tc .vmem s .f32) (hs : src.view.WordExact) (hd : dst.view.WordExact) (i : Fin 3) : Prg F PUnit :=
  Prog.lift (.waitDma2 (opS i) src dst hs hd)

/-- Read the projections' operands and form one plus the scale and the shift. -/
def project : Prg F (FVec F S4x1x256 .f32 ×' FVec F S4x1x256 .f32) := do
  let t : Vec F S4x128 .f32 ← Prog.lift (.load tV (Rect.unit (s := S4x128) ![0, 0] S4x128.size inb_S4x128_S4x128_0_0).toLoadRect (View.loadsAt_vmem h_S4x128))
  let a : Vec F S128x256 .f32 ← Prog.lift (.load aV (Rect.unit (s := S128x256) ![0, 0] S128x256.size inb_S128x256_S128x256_0_0).toLoadRect (View.loadsAt_vmem h_S128x256))
  let t' : Vec F S4x128 .f32 ← Prog.lift (.load tV (Rect.unit (s := S4x128) ![0, 0] S4x128.size inb_S4x128_S4x128_0_0).toLoadRect (View.loadsAt_vmem h_S4x128))
  let b : Vec F S128x256 .f32 ← Prog.lift (.load bV (Rect.unit (s := S128x256) ![0, 0] S128x256.size inb_S128x256_S128x256_0_0).toLoadRect (View.loadsAt_vmem h_S128x256))
  pure ⟨k0_pay10 t a, k0_pay11 t' b⟩

/-- Wait for the slot of piece `p` from the peer `k + 1` places further. -/
def waitSlot (p : Fin 4) (k : Fin 3) (d : Dev nD) : Prg F PUnit :=
  Prog.lift (.waitDma2 (rcvWait p d k) (slotAt p (k0_off9 d (word k)) (k0_off9_inb d k)) (slotAt p (k0_off9 d (word k)) (k0_off9_inb d k))
    ((View.wordExact_bits rfl).reshape _ _) ((View.wordExact_bits rfl).reshape _ _))

/-- Read slot `j` of piece `p`. -/
def readSlot (p j : Fin 4) : Prg F (Vec F S1x2x4x128 .f32) :=
  Prog.lift (.load (stat p) (slotR j).toLoadRect (View.loadsAt_vmem h_S1x2x4x128))

/-- Normalize piece `p` with the statistics of all four devices. -/
def finish (p : Fin 4) (u v : FVec F S4x1x256 .f32) : Prg F PUnit := do
  let s0 ← readSlot p 0
  let s1 ← readSlot p 1
  let s2 ← readSlot p 2
  let s3 ← readSlot p 3
  let x : Vec F S4x128x256 .f32 ← Prog.lift (.load xV (pieceR p).toLoadRect (View.loadsAt_vmem h_S4x128x256))
  let _ : Vec F S4x128x256 .f32 ← Prog.lift (.load oV (pieceR p).toLoadRect (View.loadsAt_vmem h_S4x128x256))
  Prog.lift (.store oV (pieceR p) (k0_pay15 u v (k0_pay13 s0 s1 s2 s3) (k0_pay14 s0 s1 s2 s3) x) Finset.univ (View.stores_vmem_bits_univ h_S4x128x256 rfl) (.inl rfl))

/-- Wait for the transfer of piece `p` to peer `k` to have left. -/
def waitSent (p : Fin 4) (k : Fin 3) (d : Dev nD) : Prg F PUnit :=
  Prog.lift (.waitDma2 (sndS p k) (slotAt p (k0_off4 d) (k0_off4_inb d)) (slotAt p (k0_off4 d) (k0_off4_inb d))
    ((View.wordExact_bits rfl).reshape _ _) ((View.wordExact_bits rfl).reshape _ _))

/-! ## Phases grouped by piece -/

def copies : Prg F PUnit := do
  copyX 0; copyX 1; copyX 2; copyX 3
  copyOp tA tV (Memref.isWhole_whole main_arg1).wordExact (Memref.isWhole_whole cc0_scratch1).wordExact 0
  copyOp aA aV (Memref.isWhole_whole main_arg2).wordExact (Memref.isWhole_whole cc0_scratch2).wordExact 1
  copyOp bA bV (Memref.isWhole_whole main_arg3).wordExact (Memref.isWhole_whole cc0_scratch3).wordExact 2
def signals (d : Dev nD) : Prg F PUnit := do signal 0 d; signal 1 d; signal 2 d
def sends (p : Fin 4) (d : Dev nD) : Prg F PUnit := do send p 0 d; send p 1 d; send p 2 d
def waitOps : Prg F PUnit := do
  waitOp tA tV (Memref.isWhole_whole main_arg1).wordExact (Memref.isWhole_whole cc0_scratch1).wordExact 0
  waitOp aA aV (Memref.isWhole_whole main_arg2).wordExact (Memref.isWhole_whole cc0_scratch2).wordExact 1
  waitOp bA bV (Memref.isWhole_whole main_arg3).wordExact (Memref.isWhole_whole cc0_scratch3).wordExact 2
def waitSlots (p : Fin 4) (d : Dev nD) : Prg F PUnit := do waitSlot p 0 d; waitSlot p 1 d; waitSlot p 2 d
def waitSents (p : Fin 4) (d : Dev nD) : Prg F PUnit := do waitSent p 0 d; waitSent p 1 d; waitSent p 2 d

/-- The body. -/
def body : Prg F PUnit := do
  let d : Dev nD ← Prog.lift .deviceId
  copies
  signals d
  stats 0 d
  semWaitWord barS 3#32
  sends 0 d
  stats 1 d
  sends 1 d
  stats 2 d
  sends 2 d
  stats 3 d
  sends 3 d
  waitOps
  let uv ← project
  waitSlots 0 d
  finish 0 uv.1 uv.2
  waitSlots 1 d
  finish 1 uv.1 uv.2
  waitSlots 2 d
  finish 2 uv.1 uv.2
  waitSlots 3 d
  finish 3 uv.1 uv.2
  waitSents 0 d
  waitSents 1 d
  waitSents 2 d
  waitSents 3 d

set_option maxRecDepth 65536 in
/-- The printed body, at the buffers the launch gives it, is the body in phases: by unfolding. -/
theorem body_eq : cc0_body (F := F) xA (Memref.isWhole_whole _) tA (Memref.isWhole_whole _) aA (Memref.isWhole_whole _) bA (Memref.isWhole_whole _)
    oV (Memref.isWhole_whole _) xV (Memref.isWhole_whole _) tV (Memref.isWhole_whole _) aV (Memref.isWhole_whole _) bV (Memref.isWhole_whole _)
    (Memref.whole cc0_scratch4) (Memref.isWhole_whole _) (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11 = body := rfl

end Cert.KernelIdeal.Norm

end
-- ==== Proof.Schedule.lean ====
/-
The protocol of the kernel: its semaphores as cells, what each delivers, and what each device owes.

Every semaphore runs one round. The barrier of device `c` is paid by the three others, each handing over the
four slots it keeps for `c`. A copy's semaphore delivers the copied block and its source; a transfer's source
semaphore delivers the share of the slot that was lent, its destination semaphore the slot filled.
-/
module

public import proofs.«01_k».proof.Proof.Body
public import Idealize.ShloMosaic.Lib.Rounds
public import Idealize.ShloMosaic.Lib.Tactic

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's copy and the kernel's own, duties named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

set_option backward.proofsInPublic true in
/-- The device `k + 1` places further on. -/
def peer (k : Fin 3) (c : Dev nD) : Dev nD := ⟨(c.val + k.val + 1) % 4, Nat.mod_lt _ (by decide)⟩

theorem peer_rev (k : Fin 3) (c : Dev nD) : peer k.rev (peer k c) = c := by revert k c; decide
theorem peer_ne (k : Fin 3) (c : Dev nD) : peer k c ≠ c := by revert k c; decide
theorem peer_inj (k k' : Fin 3) (c : Dev nD) : peer k c = peer k' c → k = k' := by revert k k' c; decide
theorem sigDev_eq (k : Fin 3) (c : Dev nD) : sigDev k c = peer k c := by revert k c; decide +kernel
theorem sndDev_eq (p : Fin 4) (k : Fin 3) (c : Dev nD) : sndDev p k c = peer k c := by revert p k c; decide +kernel

theorem rcvOff_eq (p : Fin 4) (c : Dev nD) : rcvOff p c = rcvS p c := by revert p c; decide +kernel
theorem rcvWait_eq (p : Fin 4) (c : Dev nD) (k : Fin 3) : rcvWait p c k = rcvS p (peer k c) := by revert p c k; decide +kernel
theorem off_row0 (c : Dev nD) : k0_off1 c = ![c.val, 0, 0, 0] := by revert c; decide +kernel
theorem off_row1 (c : Dev nD) : k0_off2 c = ![c.val, 1, 0, 0] := by revert c; decide +kernel
theorem off_slot (c : Dev nD) : k0_off4 c = ![c.val, 0, 0, 0] := by revert c; decide +kernel
theorem off_peer (c : Dev nD) (k : Fin 3) : k0_off9 c (word k) = ![(peer k c).val, 0, 0, 0] := by revert c k; decide +kernel

/-! ## The semaphores as cells -/

/-- The kernel's own semaphores: a piece of `x`, another operand, a transfer's source, a transfer's destination. -/
abbrev Own : Type := Fin 4 ⊕ Fin 3 ⊕ (Fin 4 × Fin 3) ⊕ (Fin 4 × Fin 4)
/-- All of them, the barrier first. -/
abbrev Key : Type := Unit ⊕ Own

instance decEqOwn : DecidableEq Own := instDecidableEqSum
instance decEqKey : DecidableEq Key := instDecidableEqSum

abbrev xin (p : Fin 4) : Own := .inl p
abbrev opn (i : Fin 3) : Own := .inr (.inl i)
abbrev snd (p : Fin 4) (k : Fin 3) : Own := .inr (.inr (.inl (p, k)))
abbrev rcv (p j : Fin 4) : Own := .inr (.inr (.inr (p, j)))
abbrev bar : Key := .inl ()

def dmaOf : Own → DmaSem sig
  | .inl p => inS p
  | .inr (.inl i) => opS i
  | .inr (.inr (.inl (p, k))) => sndS p k
  | .inr (.inr (.inr (p, j))) => rcvS p j
def osem (o : Own) : SemLoc sig := .dma (dmaOf o)
def csem : Key → SemLoc sig
  | .inl _ => .reg barS
  | .inr o => osem o

abbrev cell (c : Dev nD) (a : Key) : GSem nD τ sig := ((c : Thread nD τ), csem a)
abbrev barCell (c : Dev nD) : GSem nD τ sig := ((c : Thread nD τ), .reg barS)
abbrev ownCell (c : Dev nD) (o : Own) : GSem nD τ sig := ((c : Thread nD τ), osem o)

set_option backward.proofsInPublic true in
/-- Which of them a semaphore is. -/
def keyOf : SemLoc sig → Option Key
  | .reg s => if s = barS then some bar else none
  | .dma q =>
    if h0 : q.val < 1 then none
    else if h1 : q.val < 5 then some (.inr (xin ⟨q.val - 1, by omega⟩))
    else if h2 : q.val < 8 then some (.inr (opn ⟨q.val - 5, by omega⟩))
    else if h3 : q.val < 20 then some (.inr (snd ⟨(q.val - 8) / 3, by omega⟩ ⟨(q.val - 8) % 3, Nat.mod_lt _ (by decide)⟩))
    else if h4 : q.val < 36 then some (.inr (rcv ⟨(q.val - 20) / 4, by omega⟩ ⟨(q.val - 20) % 4, Nat.mod_lt _ (by decide)⟩))
    else none

theorem keyOf_csem (a : Key) : keyOf (csem a) = some a := by
  rcases a with u | p | i | ⟨p, k⟩ | ⟨p, j⟩
  · cases u; decide
  · revert p; decide
  · revert i; decide
  · revert p k; decide
  · revert p j; decide

theorem csem_injective : Function.Injective csem := fun a b h => by
  have := congrArg keyOf h
  rw [keyOf_csem, keyOf_csem] at this
  exact Option.some.inj this

theorem cell_injective : Function.Injective (fun ca : Dev nD × Key => cell ca.1 ca.2) := by
  rintro ⟨c, a⟩ ⟨c', a'⟩ h
  have h1 : c = c' := congrArg (fun g : GSem nD τ sig => g.1.1) h
  have h2 : a = a' := csem_injective (congrArg Prod.snd h)
  rw [h1, h2]

/-! ## Contents -/

/-- Block `p` of device `j`'s rows of `x`. -/
def xblk (p : Fin 4) (j : Dev nD) : Vec F S4x128x256 .f32 :=
  (xH p).view.read (Elt F) (m ((xH p).view.loc (j : Thread nD τ)))

theorem y_lt {n : Nat} (i : Fin n) : i.val < n := i.isLt

/-- The index of a row's entry. -/
def rowIx (b : Fin 4) (r : Fin 128) : S1x1x4x128.Idx := fun a => match a with
  | 0 => (0 : Fin 1)
  | 1 => (0 : Fin 1)
  | 2 => b
  | 3 => r

/-- The statistics of piece `p`, the same on every device once all slots are filled. -/
def statV (p : Fin 4) : Vec F S4x2x4x128 .f32 := fun i =>
  if (i 1).val = 0 then k0_pay1 (xblk m p (i 0)) (rowIx (i 2) (i 3)) else k0_pay2 (xblk m p (i 0)) (rowIx (i 2) (i 3))

/-- The elements of slot `j` of piece `p`, held on device `c` at the final statistics with share `q`; -/
def slotP (c : Dev nD) (p : Fin 4) (j : Dev nD) (q : PosShare TreeShare) : sProp 𝕄 :=
  (stat p).view.loc (c : Thread nD τ) ↦[((stat p).view.slice (slotR j)).set]{q} (stat p).view.rep (statV m p)
/-- and held at anything. -/
def slotE (c : Dev nD) (p : Fin 4) (j : Dev nD) : sProp 𝕄 :=
  iprop(∃ f, (stat p).view.loc (c : Thread nD τ) ↦[((stat p).view.slice (slotR j)).set]{fullShare} f)

/-- A block copied: the destination holds what the source held at launch, and the source still does. -/
def moved {s : Shape} (src : Memref sig .tc .hbm s .f32) (dst : Memref sig .tc .vmem s .f32) (c : Dev nD) : sProp 𝕄 :=
  iprop((dst.view.loc (c : Thread nD τ) ↦[dst.view.set]{fullShare} dst.view.rep (src.view.read (Elt F) (m (src.view.loc (c : Thread nD τ)))))
    ∗ (src.view.loc (c : Thread nD τ) ↦[src.view.set]{fullShare} m (src.view.loc (c : Thread nD τ))))

/-- A third of the half of a slot that is lent to the transfers. -/
def third : Fin 3 → PosShare TreeShare
  | 0 => fullShare.left.left
  | 1 => fullShare.left.right.left
  | 2 => fullShare.left.right.right

/-! ## The schedule -/

def payOf (c : Dev nD) : Key → Dev nD → sProp 𝕄
  | .inl _, d => bigSep Finset.univ fun p : Fin 4 => slotE (F := F) d p c
  | .inr (.inl p), _ => moved m (xH p) (xP p) c
  | .inr (.inr (.inl 0)), _ => moved m tA tV c
  | .inr (.inr (.inl 1)), _ => moved m aA aV c
  | .inr (.inr (.inl 2)), _ => moved m bA bV c
  | .inr (.inr (.inr (.inl (p, k)))), _ => slotP m c p c (third k)
  | .inr (.inr (.inr (.inr (p, j)))), _ => slotP m c p j fullShare

def dutyOf (c : Dev nD) : Key → Finset (Dev nD)
  | .inl _ => Finset.univ.erase c
  | .inr (.inr (.inr (.inr (p, j)))) => if j = c then ∅ else {0}
  | _ => {0}

/-- What a transfer of a slot counts. -/
def Ns : ℕ := (slotAt 0 ![0, 0, 0, 0] (slot_inb 0)).view.dmaCredit

def amtOf : Key → ℕ
  | .inl _ => 1
  | .inr (.inl p) => (xP p).view.dmaCredit
  | .inr (.inr (.inl 0)) => tV.view.dmaCredit
  | .inr (.inr (.inl _)) => aV.view.dmaCredit
  | .inr (.inr (.inr _)) => Ns

theorem amtOf_pos (a : Key) : 0 < amtOf a := by
  rcases a with u | p | i | ⟨p, k⟩ | ⟨p, j⟩
  · exact Nat.one_pos
  · exact View.dmaCredit_pos _ (by decide)
  · fin_cases i <;> exact View.dmaCredit_pos _ (by decide)
  · exact View.dmaCredit_pos _ (by decide)
  · exact View.dmaCredit_pos _ (by decide)

def sched : Rounds.Schedule (GSem nD τ sig) (Dev nD) 𝕄 where
  duties g r := if r = 0 ∧ g.1.2 = .tc then (match keyOf g.2 with | some a => dutyOf g.1.1 a | none => ∅) else ∅
  unitless _ := False
  amount g _ _ := match keyOf g.2 with | some a => amtOf a | none => 1
  payload g _ d := match keyOf g.2 with | some a => payOf m g.1.1 a d | none => iprop(emp)
  amount_pos g _ _ _ := by
    split
    · exact amtOf_pos _
    · exact Nat.one_pos

omit [FloatOps F] in
instance slotE_storable (c : Dev nD) (p j : Fin 4) : BI.Storable (upEmb : UEmb _ 𝕄) (slotE (F := F) c p j) := by unfold slotE; infer_instance
instance slotP_storable (c : Dev nD) (p j : Fin 4) (q) : BI.Storable (upEmb : UEmb _ 𝕄) (slotP m c p j q) := by unfold slotP; infer_instance
instance moved_storable {s : Shape} (src : Memref sig .tc .hbm s .f32) (dst : Memref sig .tc .vmem s .f32) (c : Dev nD) :
    BI.Storable (upEmb : UEmb _ 𝕄) (moved m src dst c) := by unfold moved; infer_instance
instance payOf_storable (c : Dev nD) (a : Key) (d : Dev nD) : BI.Storable (upEmb : UEmb _ 𝕄) (payOf m c a d) := by
  rcases a with u | p | i | ⟨p, k⟩ | ⟨p, j⟩
  · unfold payOf; infer_instance
  · unfold payOf; infer_instance
  · fin_cases i <;> (dsimp only [payOf]; infer_instance)
  · unfold payOf; infer_instance
  · unfold payOf; infer_instance
instance sched_payload_storable (g : GSem nD τ sig) (r : ℕ) (d : Dev nD) : BI.Storable (upEmb : UEmb _ 𝕄) ((sched (F := F) m).payload g r d) := by
  show BI.Storable upEmb (match keyOf g.2 with | some a => payOf m g.1.1 a d | none => iprop(emp))
  split <;> infer_instance

section Sched
variable (c : Dev nD) (a : Key)

theorem duties_cell : (sched m).duties (cell c a) 0 = dutyOf c a := by
  dsimp only [sched]; rw [if_pos ⟨rfl, rfl⟩, keyOf_csem]
theorem duties_later (g : GSem nD τ sig) : ∀ r, 1 ≤ r → (sched m).duties g r = ∅ :=
  fun r hr => by dsimp only [sched]; rw [if_neg fun h => by omega]
theorem amount_cell (d : Dev nD) : (sched m).amount (cell c a) 0 d = amtOf a := by
  dsimp only [sched]; rw [keyOf_csem]
theorem payload_cell (d : Dev nD) : (sched m).payload (cell c a) 0 d = payOf m c a d := by
  dsimp only [sched]; rw [keyOf_csem]

theorem expect_cell : (sched m).expect (cell c a) 0 = (dutyOf c a).card * amtOf a := by
  unfold Schedule.expect Schedule.amountOf
  rw [duties_cell, Finset.sum_congr rfl fun d _ => amount_cell m c a d, Finset.sum_const, smul_eq_mul]

theorem rest_cell : bigSep ((sched m).duties (cell c a) 0 \ ∅) (fun d => (sched m).payload (cell c a) 0 d) = bigSep (dutyOf c a) (payOf m c a) := by
  rw [Finset.sdiff_empty, duties_cell]; exact bigSep_congr fun d _ => payload_cell m c a d

theorem duties_bar : (sched m).duties (barCell c) 0 = dutyOf c bar := duties_cell m c bar
theorem duties_own (o : Own) : (sched m).duties (ownCell c o) 0 = dutyOf c (.inr o) := duties_cell m c (.inr o)
theorem amount_bar (d : Dev nD) : (sched m).amount (barCell c) 0 d = 1 := amount_cell m c bar d
theorem amount_own (o : Own) (d : Dev nD) : (sched m).amount (ownCell c o) 0 d = amtOf (.inr o) := amount_cell m c (.inr o) d
theorem payload_bar (d : Dev nD) : (sched m).payload (barCell c) 0 d = payOf m c bar d := payload_cell m c bar d
theorem payload_own (o : Own) (d : Dev nD) : (sched m).payload (ownCell c o) 0 d = payOf m c (.inr o) d := payload_cell m c (.inr o) d
theorem expect_bar : (sched m).expect (barCell c) 0 = (dutyOf c bar).card * 1 := expect_cell m c bar
theorem expect_own (o : Own) : (sched m).expect (ownCell c o) 0 = (dutyOf c (.inr o)).card * amtOf (.inr o) := expect_cell m c (.inr o)
theorem rest_bar : bigSep ((sched m).duties (barCell c) 0 \ ∅) (fun d => (sched m).payload (barCell c) 0 d) = bigSep (dutyOf c bar) (payOf m c bar) :=
  rest_cell m c bar
theorem rest_own (o : Own) : bigSep ((sched m).duties (ownCell c o) 0 \ ∅) (fun d => (sched m).payload (ownCell c o) 0 d) = bigSep (dutyOf c (.inr o)) (payOf m c (.inr o)) :=
  rest_cell m c (.inr o)

end Sched

/-! ## What each device owes, and the levels -/

/-- The transfers in program order. -/
def pairs : List (Fin 4 × Fin 3) :=
  [(0, 0), (0, 1), (0, 2), (1, 0), (1, 1), (1, 2), (2, 0), (2, 1), (2, 2), (3, 0), (3, 1), (3, 2)]

/-- What device `c` owes for the transfers in a list: each a slot's credit at its destination. -/
def owedL (c : Dev nD) : List (Fin 4 × Fin 3) → CellTallies nD τ sig Unit
  | [] => 0
  | pk :: l => owedL c l + tallyAt (ownCell (peer pk.2 c) (rcv pk.1 c)) () Ns

/-- At launch: every transfer and the three signals. -/
def owed₀ (c : Dev nD) : CellTallies nD τ sig Unit :=
  owedL c pairs + tallyAt (barCell (peer 2 c)) () 1 + tallyAt (barCell (peer 1 c)) () 1 + tallyAt (barCell (peer 0 c)) () 1

def L (g : GSem nD τ sig) : Finset Unit := if g.1.2 = .tc then {()} else ∅
/-- Barrier cells at 1, receive cells at 2, everything else at 0. -/
def lvS (s : SemLoc sig) : ℕ := match keyOf s with
  | some (.inl _) => 1
  | some (.inr (.inr (.inr (.inr _)))) => 2
  | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g h : GSem nD τ sig} {n : ℕ} {u : Unit} (hp : 0 < tallyAt g () n h u) : h = g := by
  rw [tallyAt_apply] at hp
  by_contra hn
  rw [if_neg (fun h' => hn h'.1)] at hp
  exact Nat.lt_irrefl 0 hp

theorem owedL_pos {c : Dev nD} {l : List (Fin 4 × Fin 3)} {g : GSem nD τ sig} {u : Unit} (h : 0 < owedL c l g u) :
    ∃ e p j, g = ownCell e (rcv p j) := by
  induction l with
  | nil => exact absurd h (Nat.lt_irrefl 0)
  | cons pk l ih =>
    unfold owedL at h
    rw [Pi.add_apply, Finsupp.add_apply] at h
    rcases Nat.eq_zero_or_pos (owedL c l g u) with h0 | h0
    · rw [h0, Nat.zero_add] at h
      exact ⟨_, _, _, tallyAt_pos h⟩
    · exact ih h0

theorem owed₀_pos {c : Dev nD} {g : GSem nD τ sig} {u : Unit} (h : 0 < owed₀ c g u) :
    (∃ e p j, g = ownCell e (rcv p j)) ∨ ∃ e, g = barCell e := by
  unfold owed₀ at h
  rw [Pi.add_apply, Finsupp.add_apply, Pi.add_apply, Finsupp.add_apply, Pi.add_apply, Finsupp.add_apply] at h
  by_contra hn
  rw [not_or] at hn
  have h1 : owedL c pairs g u = 0 := Nat.eq_zero_of_not_pos fun h' => hn.1 (owedL_pos h')
  have h2 (e : Dev nD) : (tallyAt (barCell e) () 1 : CellTallies nD τ sig Unit) g u = 0 :=
    Nat.eq_zero_of_not_pos fun h' => hn.2 ⟨e, tallyAt_pos h'⟩
  rw [h1, h2, h2, h2] at h
  exact Nat.lt_irrefl 0 h

theorem lv_bar (c : Dev nD) (u : Unit) : lv (barCell c) u = 1 := by
  unfold lv lvS; rw [show keyOf (barCell c).2 = some bar from keyOf_csem bar]
theorem lv_rcv (c : Dev nD) (p j : Fin 4) (u : Unit) : lv (ownCell c (rcv p j)) u = 2 := by
  unfold lv lvS; rw [show keyOf (ownCell c (rcv p j)).2 = some (.inr (rcv p j)) from keyOf_csem (.inr (rcv p j))]

omit [FloatOps F] in
/-- Below the receive cells a device may wait while it owes transfers, -/
theorem mayWait_owedL (c : Dev nD) (sm : SemLoc sig) (l : List (Fin 4 × Fin 3)) (hs : lvS sm ≤ 1) :
    (levAts L lv : sProp 𝕄) ⊢ MayWait (c : Thread nD τ) sm () (owedL c l) :=
  MayOwe.of_cut (L := L) (lev := lv) 1 (fun p hp => by rw [Finset.mem_singleton.mp hp, L_tc]; exact Finset.mem_singleton_self _)
    (fun g u hg => by obtain ⟨e, p, j, rfl⟩ := owedL_pos hg; exact Finset.mem_singleton_self _)
    (fun p hp => by rw [Finset.mem_singleton.mp hp]; exact hs)
    (fun g u hg => by obtain ⟨e, p, j, rfl⟩ := owedL_pos hg; rw [lv_rcv]; exact Nat.one_lt_two)

omit [FloatOps F] in
/-- and below the barrier whatever it owes. -/
theorem mayWait_owed₀ (c : Dev nD) (sm : SemLoc sig) (hs : lvS sm = 0) :
    (levAts L lv : sProp 𝕄) ⊢ MayWait (c : Thread nD τ) sm () (owed₀ c) :=
  MayOwe.of_cut (L := L) (lev := lv) 0 (fun p hp => by rw [Finset.mem_singleton.mp hp, L_tc]; exact Finset.mem_singleton_self _)
    (fun g u hg => by rcases owed₀_pos hg with ⟨e, p, j, rfl⟩ | ⟨e, rfl⟩ <;> exact Finset.mem_singleton_self _)
    (fun p hp => by rw [Finset.mem_singleton.mp hp]; exact le_of_eq hs)
    (fun g u hg => by rcases owed₀_pos hg with ⟨e, p, j, rfl⟩ | ⟨e, rfl⟩ <;> first | (rw [lv_rcv]; exact Nat.two_pos) | (rw [lv_bar]; exact Nat.one_pos))

/-- What a device owes, whatever its waits so far. -/
def owing (c : Dev nD) (O : CellTallies nD τ sig Unit) : sProp 𝕄 := iprop(∃ W, owes (c : Thread nD τ) O W)

/-! ## The invariants -/

/-- Every cell's invariant, and that every cell has reached its round. -/
def records : sProp 𝕄 :=
  bigSep Finset.univ fun ca : Dev nD × Key => iprop(∃ κ : ℕ, cellInv ER (sched m) κ (cell ca.1 ca.2) ∗ reached ER (cell ca.1 ca.2) 0)

instance records_persistent : BI.Persistent (records m) := by unfold records; infer_instance

theorem record_at (c : Dev nD) (a : Key) : records m ⊢ iprop(∃ κ : ℕ, cellInv ER (sched m) κ (cell c a) ∗ reached ER (cell c a) 0) :=
  bigSep_elim (Φ := fun ca : Dev nD × Key => iprop(∃ κ : ℕ, cellInv ER (sched m) κ (cell ca.1 ca.2) ∗ reached ER (cell ca.1 ca.2) 0)) (Finset.mem_univ (c, a))

theorem record_bar (c : Dev nD) : records m ⊢ iprop(∃ κ : ℕ, cellInv ER (sched m) κ (barCell c) ∗ reached ER (barCell c) 0) := record_at m c bar
theorem record_own (c : Dev nD) (o : Own) : records m ⊢ iprop(∃ κ : ℕ, cellInv ER (sched m) κ (ownCell c o) ∗ reached ER (ownCell c o) 0) := record_at m c (.inr o)

abbrev 𝒱₀ : Variants := Variants.none

end Cert.KernelIdeal.Norm

end
-- ==== Proof.Steps.lean ====
/-
One step of the kernel at a time: a copy in, a signal, a transfer, a wait, each stated for any piece and peer.
-/
module

public import proofs.«01_k».proof.Proof.Schedule

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program of device `c` run to a postcondition. -/
abbrev Run {α : Type} (c : Dev nD) (e : Prg F α) (Q : α → sProp 𝕄) : sProp 𝕄 :=
  wp frame (wpE (defs₀ (F := F)) 𝒱₀ (c : Thread nD τ) none) Set.univ e Q

/-! ## Contents seen through a view -/

omit [FloatOps F] in
/-- On the elements of a view, a buffer matters only by what the view reads of it. -/
theorem pts_read {sp : Space} {s : Shape} {e : EltTy} (v : View sig .tc sp s e) (c : Dev nD) (q : PosShare TreeShare)
    (f g : v.ty.Contents (Elt F)) (h : v.read (Elt F) f = v.read (Elt F) g) :
    (v.loc (c : Thread nD τ) ↦[v.set]{q} f : sProp 𝕄) = v.loc (c : Thread nD τ) ↦[v.set]{q} g :=
  pointsTo_congr fun i hi => by
    obtain ⟨x, -, rfl⟩ := Finset.mem_map.mp hi
    have := congrFun h x
    rw [View.read_apply, View.read_apply] at this
    have h2 := congrArg (cast (congrArg (Elt F) v.elt_eq.symm)) this
    rwa [cast_cast, cast_cast, cast_eq, cast_eq] at h2

/-- The elements of a slot are those of the view a transfer moves. -/
theorem slotAt_set (p j : Fin 4) (off : Fin 4 → Nat) (h) (ho : off = ![j.val, 0, 0, 0]) :
    (slotAt p off h).view.set = ((stat p).view.slice (slotR j)).set := by
  subst ho; exact View.set_reshape _ _

/-! ## Copies in -/

theorem duty_own (c : Dev nD) (a : Own) (h : dutyOf c (.inr a) = {0}) : (0 : Dev nD) ∈ (sched m).duties (ownCell c a) 0 := by
  rw [duties_own, h]; exact Finset.mem_singleton_self _

/-- A copy from an operand into fast memory: its semaphore's credit for the source and the destination. -/
theorem run_copy {s : Shape} (c : Dev nD) (a : Own) (src : Memref sig .tc .hbm s .f32) (dst : Memref sig .tc .vmem s .f32)
    (hs : src.view.WordExact) (hd : dst.view.WordExact) (ht)
    (hk : dst.view.amount (osem a) = amtOf (.inr a)) (hduty : dutyOf c (.inr a) = {0}) (hpay : payOf m c (.inr a) 0 = moved m src dst c) (Q : PUnit → sProp 𝕄) :
    iprop(records m ∗ (src.view.loc (c : Thread nD τ) ↦[src.view.set]{fullShare} m (src.view.loc (c : Thread nD τ)))
        ∗ (∃ f, dst.view.loc (c : Thread nD τ) ↦[dst.view.set]{fullShare} f) ∗ dutyTok ER (ownCell c a) 0 0
        ∗ (cred (tallyAt (ownCell c a) () (amtOf (.inr a))) -∗ Q ⟨⟩))
      ⊢ Run c (Prog.lift (.enqueueDma src (.here dst) (osem a) hs hd ht)) Q := by
  iintro ⟨#HR, Hs, ⟨%f, Hd⟩, Htok, Hk⟩
  ihave Hr := (record_own m c a) $$ HR
  icases Hr with ⟨%κ, #HI, #Hr0⟩
  unfold Run Prog.lift
  iapply (Rounds.wp_copy_pointsTo 𝒱₀ ER (sched m) (c : Thread nD τ) none (κ := κ) (r := 0) (d := (0 : Dev nD)) (sem := osem a) (fd := f)
      (duty_own m c a hduty) () (amtOf (.inr a)) hk (amount_own m c a 0)
      (by
        rw [payload_own m c a, hpay]; unfold moved
        refine sep_mono_left (Entails.of_eq (pts_read dst.view c fullShare _ _ ?_))
        rw [View.read_write_univ, View.read_rep])) $$ [Hs Hd Htok]
  · isplitr; · iexact HI
    isplitl [Hs]; · iexact Hs
    isplitl [Hd]; · iexact Hd
    isplitl [Htok]; · iexact Htok
    iexact Hr0
  iintro Hc
  rw [wp_ret]; imodintro
  iapply Hk; iexact Hc

/-! ## Waits -/

/-- A wait for everything one of the kernel's own semaphores delivers: its payload, and the semaphore at zero for good. -/
theorem run_wait (c : Dev nD) (a : Own) (w : TpuEff nD τ sig (Elt F) Λ₀ .tc PUnit) (k' : ℕ)
    (hw : ∀ K : PUnit → sProp 𝕄, wpE (defs₀ (F := F)) 𝒱₀ (c : Thread nD τ) none Set.univ w K = waitSpec (c : Thread nD τ) Set.univ (osem a) k' K)
    (hk : k' = amtOf (.inr a)) (hduty : dutyOf c (.inr a) = {0}) (l : List (Fin 4 × Fin 3)) (hl : lvS (osem a) ≤ 1 ∨ l = []) (Q : PUnit → sProp 𝕄) :
    iprop(records m ∗ levAts L lv ∗ cred (tallyAt (ownCell c a) () (amtOf (.inr a))) ∗ owing c (owedL c l) ∗ atPos ER (ownCell c a) 0 ∅ 0
        ∗ (iprop(semVal (ownCell c a) 0 ∗ payOf m c (.inr a) 0 ∗ owing c (owedL c l)) -∗ Q ⟨⟩))
      ⊢ Run c (Prog.lift w) Q := by
  subst hk
  iintro ⟨#HR, #Hlev, Hc, Ho, Hat, Hk⟩
  ihave Hr := (record_own m c a) $$ HR
  icases Hr with ⟨%κ, #HI, #Hr0⟩
  unfold Run Prog.lift owing
  icases Ho with ⟨%W, HO⟩
  iapply (Rounds.wp_wait_rest_token 𝒱₀ ER (sched m) (c : Thread nD τ) none (κ := κ) (sm := osem a)
      hw (Set.mem_univ _) () (O := owedL c l) (W := W) (R := 0) (m := 0) (T := ∅)
      (by rw [expect_own, hduty, Finset.card_singleton, Nat.zero_add, Nat.one_mul])) $$ [Hc HO Hat]
  · isplitr; · iexact HI
    isplitl [Hc]; · iexact Hc
    isplitl [HO]; · iexact HO
    isplitr
    · rcases hl with hl | rfl
      · iapply (mayWait_owedL c (osem a) l hl); iexact Hlev
      · unfold owedL; rw [MayWait_zero]; iempintro
    iexact Hat
  iintro ⟨HO, Hat, -, Hpay⟩
  ihave Hp := (Entails.of_eq ((rest_own m c a).trans (by rw [hduty, bigSep_singleton]))) $$ Hpay
  imod (Rounds.cell_close ER (sched m) (Set.mem_univ κ) (fun h => h) (R := 0 + 1) (duties_later m (ownCell c a))) $$ [Hat] with Hz
  · isplitr; · iexact HI
    iexact Hat
  rw [wp_ret]; imodintro
  iapply Hk
  isplitl [Hz]; · iexact Hz
  isplitl [Hp]; · iexact Hp
  iexists _; iexact HO

/-! ## The handshake -/

/-- A signal to a peer: the four slots this device keeps for it go with it. -/
theorem run_signal (c : Dev nD) (k : Fin 3) (O : CellTallies nD τ sig Unit) (Q : PUnit → sProp 𝕄) :
    iprop(records m ∗ owing c (O + tallyAt (barCell (peer k c)) () 1) ∗ dutyTok ER (barCell (peer k c)) 0 c
        ∗ (bigSep Finset.univ fun p : Fin 4 => slotE (F := F) c p (peer k c)) ∗ (owing c O -∗ Q ⟨⟩))
      ⊢ Run c (signal k c) Q := by
  iintro ⟨#HR, Ho, Htok, Hs, Hk⟩
  ihave Hr := (record_bar m (peer k c)) $$ HR
  icases Hr with ⟨%κ, #HI, #Hr0⟩
  unfold Run signal owing
  rw [sigDev_eq]
  simp only [semSignalWord, Prog.lift, Prog.bind_op, Prog.bind_ret, Prog.pure_eq_ret]
  icases Ho with ⟨%W, HO⟩
  iapply (Rounds.wp_signal 𝒱₀ ER (sched m) (c : Thread nD τ) none (dst := (peer k c : Thread nD τ)) (κ := κ) (sem := barS)
      (d := c) (r := 0) (by rw [duties_bar m (peer k c)]; exact Finset.mem_erase.mpr ⟨(peer_ne k c).symm, Finset.mem_univ _⟩)
      ((amount_bar m (peer k c) c).trans (by decide)) () O rfl) $$ [HO Htok Hs]
  · isplitr; · iexact HI
    isplitl [HO]; · iexact HO
    isplitl [Htok]; · iexact Htok
    isplitl [Hs]
    · rw [payload_bar m (peer k c)]
      iapply (show (bigSep Finset.univ fun p : Fin 4 => slotE (F := F) c p (peer k c)) ⊢ payOf m (peer k c) bar c from .rfl); iexact Hs
    iexact Hr0
  iintro HO
  rw [wp_ret]; imodintro
  iapply Hk; iexists W; iexact HO

theorem others (c : Dev nD) : Finset.univ.erase c = [peer 0 c, peer 1 c, peer 2 c].toFinset := by revert c; decide
theorem others_nodup (c : Dev nD) : [peer 0 c, peer 1 c, peer 2 c].Nodup := by revert c; decide

/-- The wait for the three signals: each other device's four slots for this one, and the barrier at zero for good. -/
theorem run_barrier (c : Dev nD) (l : List (Fin 4 × Fin 3)) (Q : PUnit → sProp 𝕄) :
    iprop(records m ∗ levAts L lv ∗ cred (tallyAt (barCell c) () 3) ∗ owing c (owedL c l) ∗ atPos ER (barCell c) 0 ∅ 0
        ∗ (iprop(semVal (barCell c) 0 ∗ (bigSep Finset.univ fun k : Fin 3 => bigSep Finset.univ fun p : Fin 4 => slotE (F := F) (peer k c) p c) ∗ owing c (owedL c l)) -∗ Q ⟨⟩))
      ⊢ Run c (semWaitWord barS 3#32) Q := by
  iintro ⟨#HR, #Hlev, Hc, Ho, Hat, Hk⟩
  ihave Hr := (record_bar m c) $$ HR
  icases Hr with ⟨%κ, #HI, #Hr0⟩
  unfold Run owing
  simp only [semWaitWord, Prog.lift, Prog.bind_op, Prog.bind_ret, Prog.pure_eq_ret]
  icases Ho with ⟨%W, HO⟩
  iapply (Rounds.wp_wait_rest_token 𝒱₀ ER (sched m) (c : Thread nD τ) none (κ := κ) (sm := .reg barS)
      (wpE_semWait_eq 𝒱₀ (c : Thread nD τ) none Set.univ) (Set.mem_univ _) () (O := owedL c l) (W := W) (R := 0) (m := 0) (T := ∅)
      (by rw [expect_bar m c, show (dutyOf c bar).card = 3 from by revert c; decide]; rfl)) $$ [Hc HO Hat]
  · isplitr; · iexact HI
    isplitl [Hc]; · iexact Hc
    isplitl [HO]; · iexact HO
    isplitr; · iapply (mayWait_owedL c (.reg barS) l (by decide)); iexact Hlev
    iexact Hat
  iintro ⟨HO, Hat, -, Hpay⟩
  ihave Hp := (Entails.of_eq (rest_bar m c)) $$ Hpay
  imod (Rounds.cell_close ER (sched m) (Set.mem_univ κ) (fun h => h) (R := 0 + 1) (duties_later m (barCell c))) $$ [Hat] with Hz
  · isplitr; · iexact HI
    iexact Hat
  rw [wp_ret]; imodintro
  iapply Hk
  isplitl [Hz]; · iexact Hz
  isplitl [Hp]
  · rw [bigSep_univ_eq_bigSepL [0, 1, 2] (by decide) (by decide)]
    ihave Hp' := (show bigSep (dutyOf c bar) (payOf m c bar) ⊢ bigSepL [0, 1, 2] (fun k : Fin 3 => bigSep Finset.univ fun p : Fin 4 => slotE (F := F) (peer k c) p c) from
      Entails.of_eq (bigSep_eq_bigSepL_of_eq (Φ := payOf m c bar) [peer 0 c, peer 1 c, peer 2 c] (others c) (others_nodup c))) $$ Hp
    iexact Hp'
  iexists _; iexact HO

/-! ## Transfers -/

/-- A transfer of this device's slot to a peer: a third of the lent half goes, and the peer's slot with it. -/
theorem run_send (c : Dev nD) (p : Fin 4) (k : Fin 3) (l : List (Fin 4 × Fin 3)) (Q : PUnit → sProp 𝕄) :
    iprop(records m ∗ slotP m c p c (third k) ∗ slotE (F := F) (peer k c) p c ∗ owing c (owedL c ((p, k) :: l))
        ∗ dutyTok ER (ownCell c (snd p k)) 0 0 ∗ dutyTok ER (ownCell (peer k c) (rcv p c)) 0 0
        ∗ (iprop(cred (tallyAt (ownCell c (snd p k)) () Ns) ∗ owing c (owedL c l)) -∗ Q ⟨⟩))
      ⊢ Run c (send p k c) Q := by
  iintro ⟨#HR, Hs, Hd, Ho, Ht1, Ht2, Hk⟩
  ihave Hr := (record_own m c (snd p k)) $$ HR
  icases Hr with ⟨%κ₁, #HI1, #Hr1⟩
  ihave Hr := (record_own m (peer k c) (rcv p c)) $$ HR
  icases Hr with ⟨%κ₂, #HI2, #Hr2⟩
  unfold Run send owing
  rw [sndDev_eq, rcvOff_eq]
  unfold sendTo slotE
  icases Hd with ⟨%fd, Hd⟩
  icases Ho with ⟨%W, HO⟩
  have hset := slotAt_set p c (k0_off4 c) (k0_off4_inb c) (off_slot c)
  unfold slotP Prog.lift
  rw [← hset]
  iapply (Rounds.wp_send_pointsTo 𝒱₀ ER (sched m) (c : Thread nD τ) none (κ₁ := κ₁) (κ₂ := κ₂)
      (src := slotAt p (k0_off4 c) (k0_off4_inb c)) (dst := slotAt p (k0_off4 c) (k0_off4_inb c)) (c' := (peer k c : Thread nD τ))
      (r₁ := 0) (r₂ := 0) (d₁ := (0 : Dev nD)) (d₂ := (0 : Dev nD)) (q := third k) (fd := fd) (fs := (stat p).view.rep (statV m p)) (sS := osem (snd p k)) (sem := osem (rcv p c))
      (by rw [duties_own m c (snd p k)]; exact Finset.mem_singleton_self _)
      (by rw [duties_own m (peer k c) (rcv p c)]; show (0 : Dev nD) ∈ (if c = peer k c then (∅ : Finset (Dev nD)) else {0}); rw [if_neg (peer_ne k c).symm]; exact Finset.mem_singleton_self _)
      () () Ns rfl (amount_own m c (snd p k) 0) (amount_own m (peer k c) (rcv p c) 0) (owedL c l) rfl (W := W)
      (by rw [payload_own m c (snd p k)]; show _ ⊢ slotP m c p c (third k); unfold slotP; rw [← hset])
      (by
        rw [payload_own m (peer k c) (rcv p c)]; show _ ⊢ slotP m (peer k c) p c fullShare; unfold slotP; rw [← hset]
        exact Entails.of_eq (pts_read (slotAt p (k0_off4 c) (k0_off4_inb c)).view (peer k c) fullShare _ _ (View.read_write_univ _ _)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hc]; · iexact Hc
  iexists W; iexact HO

end Cert.KernelIdeal.Norm

end
-- ==== Proof.Phases.lean ====
/-
The phases of the kernel, each for any piece: what it takes and what it leaves.
-/
module

public import proofs.«01_k».proof.Proof.Steps

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Geometry -/

/-- A row lies in its slot. -/
theorem row_sub (p j : Fin 4) (q : Fin 2) (off : Fin 4 → Nat) (h) (ho : off = ![j.val, q.val, 0, 0]) :
    ((stat p).access (Rect.unit (s := S4x2x4x128) off S1x1x4x128.size h)).set ⊆ ((stat p).view.slice (slotR j)).set := by
  subst ho
  rw [View.set_slice, View.set_slice]
  refine Finset.map_subset_map.mpr fun i hi => ?_
  rw [Rect.mem_set_unit] at hi ⊢
  intro a
  have := hi a
  have hq := q.isLt
  fin_cases a <;> simp [S1x1x4x128, S1x2x4x128] at this ⊢ <;> omega

theorem row_sub0 (p : Fin 4) (c : Dev nD) :
    ((stat p).access (Rect.unit (s := S4x2x4x128) (k0_off1 c) S1x1x4x128.size (k0_off1_inb c))).set ⊆ ((stat p).view.slice (slotR c)).set :=
  row_sub p c 0 (k0_off1 c) (k0_off1_inb c) (off_row0 c)
theorem row_sub1 (p : Fin 4) (c : Dev nD) :
    ((stat p).access (Rect.unit (s := S4x2x4x128) (k0_off2 c) S1x1x4x128.size (k0_off2_inb c))).set ⊆ ((stat p).view.slice (slotR c)).set :=
  row_sub p c 1 (k0_off2 c) (k0_off2_inb c) (off_row1 c)

/-- Both rows written, the slot holds the statistics. -/
theorem rows_fill (p j : Fin 4) (off0 off1 : Fin 4 → Nat) (h0) (h1) (ho0 : off0 = ![j.val, 0, 0, 0]) (ho1 : off1 = ![j.val, 1, 0, 0])
    (f : (stat p).view.ty.Contents (Elt F)) :
    ((stat p).view.slice (slotR j)).read (Elt F)
      (((stat p).access (Rect.unit (s := S4x2x4x128) off1 S1x1x4x128.size h1)).write (Elt F)
        (((stat p).access (Rect.unit (s := S4x2x4x128) off0 S1x1x4x128.size h0)).write (Elt F) f (k0_pay1 (xblk m p j)) Finset.univ)
        (k0_pay2 (xblk m p j)) Finset.univ)
      = ((stat p).view.slice (slotR j)).read (Elt F) ((stat p).view.rep (statV m p)) := by
  subst ho0 ho1
  funext y
  show (stat p).view.read (Elt F) _ ((slotR j).emb y) = (stat p).view.read (Elt F) _ ((slotR j).emb y)
  rw [View.read_rep]
  have hy1 : (y 1).val < 2 := (y 1).isLt
  have hy0 : (y 0).val < 1 := (y 0).isLt
  have e0 : ((slotR j).emb y) 0 = j := Fin.ext (by rw [Rect.emb_apply]; simp; omega)
  have e1 : (((slotR j).emb y) 1).val = (y 1).val := by rw [Rect.emb_apply]; simp
  have e2 : ((slotR j).emb y) 2 = y 2 := Fin.ext (by rw [Rect.emb_apply]; simp)
  have e3 : ((slotR j).emb y) 3 = y 3 := Fin.ext (by rw [Rect.emb_apply]; simp)
  have hrow (q : Fin 2) (hq : (y 1).val = q.val) : (slotR j).emb y = (rowR j q).emb (rowIx (y 2) (y 3)) := by
    funext a
    apply Fin.ext
    rw [Rect.emb_apply, Rect.emb_apply]
    fin_cases a <;> simp [rowIx] <;> omega
  unfold statV
  rw [e0, e1, e2, e3]
  by_cases hq : (y 1).val = 0
  · rw [if_pos hq, View.read_slice_write_of_not_mem, hrow 0 hq]
    · exact View.read_slice_write_emb (v := (stat p).view) (rowR j 0) _ _ (Finset.mem_univ _)
    intro hm
    obtain ⟨z, -, hz⟩ := Finset.mem_map.mp hm
    have := congrArg (fun i : S4x2x4x128.Idx => (i 1).val) hz
    rw [Rect.emb_apply, e1] at this
    simp at this
    omega
  · have hq' : (y 1).val = (1 : Fin 2).val := by show _ = 1; omega
    rw [if_neg hq, hrow 1 hq']
    exact View.read_slice_write_emb (v := (stat p).view) (rowR j 1) _ _ (Finset.mem_univ _)

/-- The same of the elements of this device's slot. -/
theorem rows_pts (p : Fin 4) (c : Dev nD) (f : (stat p).view.ty.Contents (Elt F)) :
    ((stat p).view.loc (c : Thread nD τ) ↦[((stat p).view.slice (slotR c)).set]{fullShare}
      ((stat p).access (Rect.unit (s := S4x2x4x128) (k0_off2 c) S1x1x4x128.size (k0_off2_inb c))).write (Elt F)
        (((stat p).access (Rect.unit (s := S4x2x4x128) (k0_off1 c) S1x1x4x128.size (k0_off1_inb c))).write (Elt F) f (k0_pay1 (xblk m p c)) Finset.univ)
        (k0_pay2 (xblk m p c)) Finset.univ : sProp 𝕄) ⊢ slotP m c p c fullShare :=
  Entails.of_eq (pts_read ((stat p).view.slice (slotR c)) c fullShare _ _
    (rows_fill m p c (k0_off1 c) (k0_off2 c) (k0_off1_inb c) (k0_off2_inb c) (off_row0 c) (off_row1 c) f))

/-! ## Waiting for a piece and leaving its statistics -/

theorem read_piece (p : Fin 4) (c : Dev nD) :
    (xV.access (pieceR p)).read (Elt F) ((xP p).view.rep ((xH p).view.read (Elt F) (m ((xH p).view.loc (c : Thread nD τ))))) = xblk m p c :=
  View.read_rep (xP p).view _

theorem lv_xin (p : Fin 4) : lvS (osem (xin p)) ≤ 1 := by revert p; decide

theorem run_waitX (c : Dev nD) (p : Fin 4) (l : List (Fin 4 × Fin 3)) (hs hd) (Q : PUnit → sProp 𝕄) :
    iprop(records m ∗ levAts L lv ∗ cred (tallyAt (ownCell c (xin p)) () (amtOf (.inr (xin p)))) ∗ owing c (owedL c l) ∗ atPos ER (ownCell c (xin p)) 0 ∅ 0
        ∗ (iprop(semVal (ownCell c (xin p)) 0 ∗ moved m (xH p) (xP p) c ∗ owing c (owedL c l)) -∗ Q ⟨⟩))
      ⊢ Run c (Prog.lift (.waitDma2 (inS p) (xH p) (xP p) hs hd)) Q :=
  run_wait m c (xin p) (.waitDma2 (inS p) (xH p) (xP p) hs hd) (xP p).view.dmaCredit (wpE_waitDma2_eq 𝒱₀ (c : Thread nD τ) none Set.univ) rfl rfl l (Or.inl (lv_xin p)) Q

set_option maxHeartbeats 1000000 in
theorem run_stats (c : Dev nD) (p : Fin 4) (l : List (Fin 4 × Fin 3)) (Q : PUnit → sProp 𝕄) :
    iprop(records m ∗ levAts L lv ∗ owing c (owedL c l) ∗ cred (tallyAt (ownCell c (xin p)) () (amtOf (.inr (xin p)))) ∗ atPos ER (ownCell c (xin p)) 0 ∅ 0
        ∗ slotE (F := F) c p c
        ∗ (iprop(semVal (ownCell c (xin p)) 0 ∗ moved m (xH p) (xP p) c ∗ slotP m c p c fullShare ∗ owing c (owedL c l)) -∗ Q ⟨⟩))
      ⊢ Run c (stats p c) Q := by
  unfold slotE
  iintro ⟨#HR, #Hlev, Ho, Hc, Hat, ⟨%f, Hs⟩, Hk⟩
  unfold stats Run
  rw [wp_bind]
  iapply (run_waitX m c p l)
  isplitr; · iexact HR
  isplitr; · iexact Hlev
  isplitl [Hc]; · iexact Hc
  isplitl [Ho]; · iexact Ho
  isplitl [Hat]; · iexact Hat
  iintro ⟨Hz, Hm, Ho⟩
  unfold moved
  icases Hm with ⟨Hx, Hh⟩
  simp only [Prog.lift, Prog.bind_op, Prog.bind_ret, Prog.pure_eq_ret]
  iapply (wp_load_rect 𝒱₀ (c : Thread nD τ) none Set.univ (m := xV) (r := pieceR p) (S := (xP p).view.set) Finset.Subset.rfl) $$ Hx
  iintro Hx
  rw [read_piece]
  iapply (wp_load_rect 𝒱₀ (c : Thread nD τ) none Set.univ (m := stat p) (row_sub0 p c)) $$ Hs
  iintro Hs
  iapply (wp_store 𝒱₀ (c : Thread nD τ) none Set.univ (m := stat p) (by rw [View.setOn_univ]; exact row_sub0 p c)) $$ Hs
  iintro Hs
  iapply (wp_load_rect 𝒱₀ (c : Thread nD τ) none Set.univ (m := stat p) (row_sub1 p c)) $$ Hs
  iintro Hs
  iapply (wp_store 𝒱₀ (c : Thread nD τ) none Set.univ (m := stat p) (by rw [View.setOn_univ]; exact row_sub1 p c)) $$ Hs
  iintro Hs
  rw [wp_ret]; imodintro
  iapply Hk
  isplitl [Hz]; · iexact Hz
  isplitl [Hx Hh]
  · isplitl [Hx] <;> iassumption
  isplitl [Hs]
  · iapply (rows_pts m p c f); iexact Hs
  iexact Ho

/-! ## The three transfers of a piece -/

/-- A slot is its kept half and the three lent thirds. -/
theorem slot_split (c : Dev nD) (p : Fin 4) :
    slotP m c p c fullShare ⊣⊢ iprop(slotP m c p c fullShare.right ∗ slotP m c p c (third 0) ∗ slotP m c p c (third 1) ∗ slotP m c p c (third 2)) := by
  unfold slotP third
  refine ⟨?_, ?_⟩
  · iintro H
    ihave H := (pointsTo_share (PosShare.mem_left_op_right fullShare)).1 $$ H
    icases H with ⟨Hl, Hr⟩
    ihave Hl := (pointsTo_share (PosShare.mem_left_op_right fullShare.left)).1 $$ Hl
    icases Hl with ⟨H0, H12⟩
    ihave H12 := (pointsTo_share (PosShare.mem_left_op_right fullShare.left.right)).1 $$ H12
    icases H12 with ⟨H1, H2⟩
    isplitl [Hr]; · iexact Hr
    isplitl [H0]; · iexact H0
    isplitl [H1] <;> iassumption
  · iintro ⟨Hr, H0, H1, H2⟩
    iapply (pointsTo_share (PosShare.mem_left_op_right fullShare)).2
    isplitr [Hr]
    · iapply (pointsTo_share (PosShare.mem_left_op_right fullShare.left)).2
      isplitl [H0]; · iexact H0
      iapply (pointsTo_share (PosShare.mem_left_op_right fullShare.left.right)).2
      isplitl [H1] <;> iassumption
    iexact Hr

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
/-- A separating product over the mesh, from one device's place on it. -/
theorem bigSep_mesh (c : Dev nD) (Φ : Dev nD → sProp 𝕄) :
    bigSep Finset.univ Φ = iprop(Φ c ∗ bigSep Finset.univ fun k : Fin 3 => Φ (peer k c)) := by
  rw [bigSep_fin3]
  exact bigSep_univ_eq_bigSepL [c, peer 0 c, peer 1 c, peer 2 c] (by revert c; decide) (by revert c; decide) Φ

/-- The tokens piece `p`'s transfers pay with: at the source and at each destination. -/
def sendToks (c : Dev nD) (p : Fin 4) : sProp 𝕄 :=
  bigSep Finset.univ fun k : Fin 3 => iprop(dutyTok ER (ownCell c (snd p k)) 0 0 ∗ dutyTok ER (ownCell (peer k c) (rcv p c)) 0 0)

theorem run_sends (c : Dev nD) (p : Fin 4) (l : List (Fin 4 × Fin 3)) (Q : PUnit → sProp 𝕄) :
    iprop(records m ∗ slotP m c p c fullShare ∗ (bigSep Finset.univ fun k : Fin 3 => slotE (F := F) (peer k c) p c) ∗ sendToks c p
        ∗ owing c (owedL c ((p, 0) :: (p, 1) :: (p, 2) :: l))
        ∗ (iprop(slotP m c p c fullShare.right ∗ (bigSep Finset.univ fun k : Fin 3 => cred (tallyAt (ownCell c (snd p k)) () Ns)) ∗ owing c (owedL c l)) -∗ Q ⟨⟩))
      ⊢ Run c (sends p c) Q := by
  unfold sendToks
  rw [bigSep_fin3, bigSep_fin3, bigSep_fin3]
  iintro ⟨#HR, Hs, ⟨Hd0, Hd1, Hd2⟩, ⟨⟨Hta0, Htb0⟩, ⟨Hta1, Htb1⟩, Hta2, Htb2⟩, Ho, Hk⟩
  ihave Hs := (slot_split m c p).1 $$ Hs
  icases Hs with ⟨Hr, H0, H1, H2⟩
  unfold sends Run
  rw [wp_bind]
  iapply (run_send m c p 0 ((p, 1) :: (p, 2) :: l))
  isplitr; · iexact HR
  isplitl [H0]; · iexact H0
  isplitl [Hd0]; · iexact Hd0
  isplitl [Ho]; · iexact Ho
  isplitl [Hta0]; · iexact Hta0
  isplitl [Htb0]; · iexact Htb0
  iintro ⟨Hc0, Ho⟩
  rw [wp_bind]
  iapply (run_send m c p 1 ((p, 2) :: l))
  isplitr; · iexact HR
  isplitl [H1]; · iexact H1
  isplitl [Hd1]; · iexact Hd1
  isplitl [Ho]; · iexact Ho
  isplitl [Hta1]; · iexact Hta1
  isplitl [Htb1]; · iexact Htb1
  iintro ⟨Hc1, Ho⟩
  iapply (run_send m c p 2 l)
  isplitr; · iexact HR
  isplitl [H2]; · iexact H2
  isplitl [Hd2]; · iexact Hd2
  isplitl [Ho]; · iexact Ho
  isplitl [Hta2]; · iexact Hta2
  isplitl [Htb2]; · iexact Htb2
  iintro ⟨Hc2, Ho⟩
  iapply Hk
  isplitl [Hr]; · iexact Hr
  isplitl [Hc0 Hc1 Hc2]
  · isplitl [Hc0]; · iexact Hc0
    isplitl [Hc1] <;> iassumption
  iexact Ho

/-! ## Waiting for a piece's slots, and for its transfers to have left -/

/-- What a wait on one of the kernel's own semaphores needs, -/
def ready (c : Dev nD) (o : Own) : sProp 𝕄 := iprop(cred (tallyAt (ownCell c o) () (amtOf (.inr o))) ∗ atPos ER (ownCell c o) 0 ∅ 0)
/-- and a wait that completes a piece's traffic, nothing being owed any more. -/
theorem run_wait_last (c : Dev nD) (o : Own) (w : TpuEff nD τ sig (Elt F) Λ₀ .tc PUnit) (k' : ℕ)
    (hw : ∀ K : PUnit → sProp 𝕄, wpE (defs₀ (F := F)) 𝒱₀ (c : Thread nD τ) none Set.univ w K = waitSpec (c : Thread nD τ) Set.univ (osem o) k' K)
    (hk : k' = amtOf (.inr o)) (hduty : dutyOf c (.inr o) = {0}) (Q : PUnit → sProp 𝕄) :
    iprop(records m ∗ levAts L lv ∗ ready (F := F) c o ∗ owing c (owedL c []) ∗ (iprop(semVal (ownCell c o) 0 ∗ payOf m c (.inr o) 0 ∗ owing c (owedL c [])) -∗ Q ⟨⟩))
      ⊢ Run c (Prog.lift w) Q := by
  unfold ready
  iintro ⟨#HR, #Hlev, ⟨Hc, Hat⟩, Ho, Hk⟩
  iapply (run_wait m c o w k' hw hk hduty [] (Or.inr rfl))
  isplitr; · iexact HR
  isplitr; · iexact Hlev
  isplitl [Hc]; · iexact Hc
  isplitl [Ho]; · iexact Ho
  isplitl [Hat]; · iexact Hat
  iexact Hk

theorem slot_credit (p : Fin 4) (off : Fin 4 → Nat) (h) : (slotAt p off h).view.dmaCredit = Ns := rfl
theorem duty_rcv (c : Dev nD) (p : Fin 4) (k : Fin 3) : dutyOf c (.inr (rcv p (peer k c))) = {0} := if_neg (peer_ne k c)

theorem run_waitSlot (c : Dev nD) (p : Fin 4) (k : Fin 3) (Q : PUnit → sProp 𝕄) :
    iprop(records m ∗ levAts L lv ∗ ready (F := F) c (rcv p (peer k c)) ∗ owing c (owedL c [])
        ∗ (iprop(semVal (ownCell c (rcv p (peer k c))) 0 ∗ slotP m c p (peer k c) fullShare ∗ owing c (owedL c [])) -∗ Q ⟨⟩))
      ⊢ Run c (waitSlot p k c) Q := by
  unfold waitSlot
  rw [rcvWait_eq]
  exact run_wait_last m c (rcv p (peer k c)) (.waitDma2 (rcvS p (peer k c)) (slotAt p (k0_off9 c (word k)) (k0_off9_inb c k)) (slotAt p (k0_off9 c (word k)) (k0_off9_inb c k)) _ _)
    (slotAt p (k0_off9 c (word k)) (k0_off9_inb c k)).view.dmaCredit
    (wpE_waitDma2_eq 𝒱₀ (c : Thread nD τ) none Set.univ) (slot_credit p _ _) (duty_rcv c p k) Q

theorem run_waitSent (c : Dev nD) (p : Fin 4) (k : Fin 3) (Q : PUnit → sProp 𝕄) :
    iprop(records m ∗ levAts L lv ∗ ready (F := F) c (snd p k) ∗ owing c (owedL c [])
        ∗ (iprop(semVal (ownCell c (snd p k)) 0 ∗ slotP m c p c (third k) ∗ owing c (owedL c [])) -∗ Q ⟨⟩))
      ⊢ Run c (waitSent p k c) Q := by
  unfold waitSent
  exact run_wait_last m c (snd p k) (.waitDma2 (sndS p k) (slotAt p (k0_off4 c) (k0_off4_inb c)) (slotAt p (k0_off4 c) (k0_off4_inb c)) _ _)
    (slotAt p (k0_off4 c) (k0_off4_inb c)).view.dmaCredit
    (wpE_waitDma2_eq 𝒱₀ (c : Thread nD τ) none Set.univ) (slot_credit p _ _) rfl Q

theorem run_waitSlots (c : Dev nD) (p : Fin 4) (Q : PUnit → sProp 𝕄) :
    iprop(records m ∗ levAts L lv ∗ (bigSep Finset.univ fun k : Fin 3 => ready (F := F) c (rcv p (peer k c))) ∗ owing c (owedL c [])
        ∗ (iprop((bigSep Finset.univ fun k : Fin 3 => semVal (ownCell c (rcv p (peer k c))) 0) ∗ (bigSep Finset.univ fun k : Fin 3 => slotP m c p (peer k c) fullShare)
            ∗ owing c (owedL c [])) -∗ Q ⟨⟩))
      ⊢ Run c (waitSlots p c) Q := by
  rw [bigSep_fin3, bigSep_fin3, bigSep_fin3]
  iintro ⟨#HR, #Hlev, ⟨H0, H1, H2⟩, Ho, Hk⟩
  unfold waitSlots Run
  rw [wp_bind]
  iapply (run_waitSlot m c p 0)
  isplitr; · iexact HR
  isplitr; · iexact Hlev
  isplitl [H0]; · iexact H0
  isplitl [Ho]; · iexact Ho
  iintro ⟨Hz0, Hs0, Ho⟩
  rw [wp_bind]
  iapply (run_waitSlot m c p 1)
  isplitr; · iexact HR
  isplitr; · iexact Hlev
  isplitl [H1]; · iexact H1
  isplitl [Ho]; · iexact Ho
  iintro ⟨Hz1, Hs1, Ho⟩
  iapply (run_waitSlot m c p 2)
  isplitr; · iexact HR
  isplitr; · iexact Hlev
  isplitl [H2]; · iexact H2
  isplitl [Ho]; · iexact Ho
  iintro ⟨Hz2, Hs2, Ho⟩
  iapply Hk
  isplitl [Hz0 Hz1 Hz2]
  · isplitl [Hz0]; · iexact Hz0
    isplitl [Hz1] <;> iassumption
  isplitl [Hs0 Hs1 Hs2]
  · isplitl [Hs0]; · iexact Hs0
    isplitl [Hs1] <;> iassumption
  iexact Ho

theorem run_waitSents (c : Dev nD) (p : Fin 4) (Q : PUnit → sProp 𝕄) :
    iprop(records m ∗ levAts L lv ∗ (bigSep Finset.univ fun k : Fin 3 => ready (F := F) c (snd p k)) ∗ slotP m c p c fullShare.right ∗ owing c (owedL c [])
        ∗ (iprop((bigSep Finset.univ fun k : Fin 3 => semVal (ownCell c (snd p k)) 0) ∗ slotP m c p c fullShare ∗ owing c (owedL c [])) -∗ Q ⟨⟩))
      ⊢ Run c (waitSents p c) Q := by
  rw [bigSep_fin3, bigSep_fin3]
  iintro ⟨#HR, #Hlev, ⟨H0, H1, H2⟩, Hr, Ho, Hk⟩
  unfold waitSents Run
  rw [wp_bind]
  iapply (run_waitSent m c p 0)
  isplitr; · iexact HR
  isplitr; · iexact Hlev
  isplitl [H0]; · iexact H0
  isplitl [Ho]; · iexact Ho
  iintro ⟨Hz0, Hs0, Ho⟩
  rw [wp_bind]
  iapply (run_waitSent m c p 1)
  isplitr; · iexact HR
  isplitr; · iexact Hlev
  isplitl [H1]; · iexact H1
  isplitl [Ho]; · iexact Ho
  iintro ⟨Hz1, Hs1, Ho⟩
  iapply (run_waitSent m c p 2)
  isplitr; · iexact HR
  isplitr; · iexact Hlev
  isplitl [H2]; · iexact H2
  isplitl [Ho]; · iexact Ho
  iintro ⟨Hz2, Hs2, Ho⟩
  iapply Hk
  isplitl [Hz0 Hz1 Hz2]
  · isplitl [Hz0]; · iexact Hz0
    isplitl [Hz1] <;> iassumption
  isplitl [Hr Hs0 Hs1 Hs2]
  · iapply (slot_split m c p).2
    isplitl [Hr]; · iexact Hr
    isplitl [Hs0]; · iexact Hs0
    isplitl [Hs1] <;> iassumption
  iexact Ho

end Cert.KernelIdeal.Norm

end
-- ==== Proof.Stages.lean ====
/-
What one piece goes through, stage by stage, and the body as the sequence of the stages.
-/
module

public import proofs.«01_k».proof.Proof.Phases

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the body computes -/

/-- Device `c`'s other operands at launch. -/
def tblk (c : Dev nD) : Vec F S4x128 .f32 := tA.view.read (Elt F) (m (tA.view.loc (c : Thread nD τ)))
def ablk (c : Dev nD) : Vec F S128x256 .f32 := aA.view.read (Elt F) (m (aA.view.loc (c : Thread nD τ)))
def bblk (c : Dev nD) : Vec F S128x256 .f32 := bA.view.read (Elt F) (m (bA.view.loc (c : Thread nD τ)))

/-- One plus the scale, and the shift. -/
def scaleV (c : Dev nD) : FVec F S4x1x256 .f32 := k0_pay10 (tblk m c) (ablk m c)
def shiftV (c : Dev nD) : FVec F S4x1x256 .f32 := k0_pay11 (tblk m c) (bblk m c)

/-- Slot `j` of piece `p`'s statistics as a load returns it. -/
def slotV (p j : Fin 4) : Vec F S1x2x4x128 .f32 := fun y => statV m p ((slotR j).emb y)

/-- Piece `p` of device `c`'s result. -/
def outBlk (p : Fin 4) (c : Dev nD) : Vec F S4x128x256 .f32 :=
  k0_pay15 (scaleV m c) (shiftV m c) (k0_pay13 (slotV m p 0) (slotV m p 1) (slotV m p 2) (slotV m p 3))
    (k0_pay14 (slotV m p 0) (slotV m p 1) (slotV m p 2) (slotV m p 3)) (xblk m p c)

/-- A row's place within its piece. -/
def inPiece (i : S4x512x256.Idx) : S4x128x256.Idx := fun a => match a with
  | 0 => i 0
  | 1 => (⟨(i 1).val % 128, Nat.mod_lt _ (by decide)⟩ : Fin 128)
  | 2 => i 2
def pieceOf (i : S4x512x256.Idx) : Fin 4 := ⟨(i 1).val / 128, by have : (i 1).val < 512 := (i 1).isLt; omega⟩

/-- Device `c`'s result. -/
def outV (c : Dev nD) : Vec F S4x512x256 .f32 := fun i => outBlk m (pieceOf i) c (inPiece i)

theorem outV_piece (p : Fin 4) (c : Dev nD) (y : S4x128x256.Idx) : outV m c ((pieceR p).emb y) = outBlk m p c y := by
  have hy : (y 1).val < 128 := (y 1).isLt
  have hp : pieceOf ((pieceR p).emb y) = p := Fin.ext (by
    show ((pieceR p).emb y 1).val / 128 = p.val
    rw [Rect.emb_apply]; simp; omega)
  have hi : inPiece ((pieceR p).emb y) = y := by
    funext a
    apply Fin.ext
    fin_cases a
    · show ((pieceR p).emb y 0).val = (y 0).val
      rw [Rect.emb_apply]; simp
    · show ((pieceR p).emb y 1).val % 128 = (y 1).val
      rw [Rect.emb_apply]; simp; omega
    · show ((pieceR p).emb y 2).val = (y 2).val
      rw [Rect.emb_apply]; simp
  unfold outV
  rw [hp, hi]

/-! ## Loads of whole buffers and of slots -/

/-- Reading all of a buffer that holds `w` gives `w`. -/
theorem read_all {sp : Space} {s : Shape} (r : Memref sig .tc sp s .f32) (off : Fin s.rank → Nat) (h) (ho : ∀ a, off a = 0) (w : Vec F s .f32) :
    (r.access (Rect.unit (s := s) off s.size h)).read (Elt F) (r.view.rep w) = w := by
  funext y
  show r.view.read (Elt F) (r.view.rep w) ((Rect.unit (s := s) off s.size h).emb y) = w y
  rw [View.read_rep]
  congr 1
  funext a
  apply Fin.ext
  rw [Rect.emb_apply]
  show off a + _ = _
  rw [ho a, Nat.zero_add]
  exact Nat.one_mul _

theorem read_slot (p j : Fin 4) : ((stat p).access (slotR j)).read (Elt F) ((stat p).view.rep (statV m p)) = slotV m p j := by
  funext y
  show (stat p).view.read (Elt F) _ ((slotR j).emb y) = _
  rw [View.read_rep]; rfl

theorem run_readSlot (c : Dev nD) (p j : Fin 4) (q : PosShare TreeShare) (Q : Vec F S1x2x4x128 .f32 → sProp 𝕄) :
    iprop(slotP m c p j q ∗ (slotP m c p j q -∗ Q (slotV m p j))) ⊢ Run c (readSlot p j) Q := by
  unfold slotP
  iintro ⟨Hs, Hk⟩
  unfold readSlot Run Prog.lift
  iapply (wp_load_rect 𝒱₀ (c : Thread nD τ) none Set.univ (m := stat p) (r := slotR j) (S := ((stat p).view.slice (slotR j)).set) Finset.Subset.rfl) $$ Hs
  iintro Hs
  rw [read_slot, wp_ret]; imodintro
  iapply Hk; iexact Hs

/-- A load of all of a buffer a copy filled. -/
theorem run_loadAll {s : Shape} (c : Dev nD) (src : Memref sig .tc .hbm s .f32) (dst : Memref sig .tc .vmem s .f32)
    (off : Fin s.rank → Nat) (h) (ho : ∀ a, off a = 0) (hl) (Q : Vec F s .f32 → sProp 𝕄) :
    iprop(moved m src dst c ∗ (moved m src dst c -∗ Q (src.view.read (Elt F) (m (src.view.loc (c : Thread nD τ))))))
      ⊢ Run c (Prog.lift (.load dst (Rect.unit (s := s) off s.size h).toLoadRect hl)) Q := by
  unfold moved
  iintro ⟨⟨Hd, Hs⟩, Hk⟩
  unfold Run Prog.lift
  iapply (wp_load_rect 𝒱₀ (c : Thread nD τ) none Set.univ (m := dst) (r := Rect.unit (s := s) off s.size h) (S := dst.view.set)
    (by rw [View.set_slice]; exact Finset.map_subset_map.mpr (Finset.subset_univ _))) $$ Hd
  iintro Hd
  rw [read_all dst off h ho, wp_ret]; imodintro
  iapply Hk
  isplitl [Hd] <;> iassumption

theorem run_project (c : Dev nD) (Q : (FVec F S4x1x256 .f32 ×' FVec F S4x1x256 .f32) → sProp 𝕄) :
    iprop(moved m tA tV c ∗ moved m aA aV c ∗ moved m bA bV c
        ∗ (iprop(moved m tA tV c ∗ moved m aA aV c ∗ moved m bA bV c) -∗ Q ⟨scaleV m c, shiftV m c⟩))
      ⊢ Run c project Q := by
  iintro ⟨Ht, Ha, Hb, Hk⟩
  unfold project Run scaleV shiftV tblk ablk bblk
  rw [wp_bind]
  iapply (run_loadAll m c tA tV _ _ (by decide))
  isplitl [Ht]; · iexact Ht
  iintro Ht
  rw [wp_bind]
  iapply (run_loadAll m c aA aV _ _ (by decide))
  isplitl [Ha]; · iexact Ha
  iintro Ha
  rw [wp_bind]
  iapply (run_loadAll m c tA tV _ _ (by decide))
  isplitl [Ht]; · iexact Ht
  iintro Ht
  rw [wp_bind]
  iapply (run_loadAll m c bA bV _ _ (by decide))
  isplitl [Hb]; · iexact Hb
  iintro Hb
  rw [Prog.pure_eq_ret, wp_ret]; imodintro
  iapply Hk
  isplitl [Ht]; · iexact Ht
  isplitl [Ha] <;> iassumption

/-! ## The last stage of a piece: its result -/

/-- The rows of piece `p` of device `c`'s output block, at anything, -/
def outE (c : Dev nD) (p : Fin 4) : sProp 𝕄 :=
  iprop(∃ f, oV.view.loc (c : Thread nD τ) ↦[(oV.view.slice (pieceR p)).set]{fullShare} f)
/-- and at the result. -/
def outP (c : Dev nD) (p : Fin 4) : sProp 𝕄 :=
  oV.view.loc (c : Thread nD τ) ↦[(oV.view.slice (pieceR p)).set]{fullShare} oV.view.rep (outV m c)

theorem out_fill (c : Dev nD) (p : Fin 4) (f : oV.view.ty.Contents (Elt F)) :
    (oV.view.loc (c : Thread nD τ) ↦[(oV.view.slice (pieceR p)).set]{fullShare}
      (oV.access (pieceR p)).write (Elt F) f (outBlk m p c) Finset.univ : sProp 𝕄) ⊢ outP m c p :=
  Entails.of_eq (pts_read (oV.view.slice (pieceR p)) c fullShare _ _ (by
    rw [View.read_write_univ]
    funext y
    show _ = oV.view.read (Elt F) (oV.view.rep (outV m c)) ((pieceR p).emb y)
    rw [View.read_rep, outV_piece]))

/-- The share of slot `j` that device `c` reads it with. -/
def keep (c j : Dev nD) : PosShare TreeShare := if j = c then fullShare.right else fullShare

theorem keep_mesh (c : Dev nD) (p : Fin 4) :
    (bigSep Finset.univ fun j : Fin 4 => slotP m c p j (keep c j))
      = iprop(slotP m c p c fullShare.right ∗ bigSep Finset.univ fun k : Fin 3 => slotP m c p (peer k c) fullShare) := by
  rw [bigSep_mesh c]
  unfold keep
  rw [if_pos rfl, bigSep_congr fun k _ => by rw [if_neg (peer_ne k c)]]

theorem run_finish (c : Dev nD) (p : Fin 4) (Q : PUnit → sProp 𝕄) :
    iprop((bigSep Finset.univ fun j : Fin 4 => slotP m c p j (keep c j)) ∗ moved m (xH p) (xP p) c ∗ outE (F := F) c p
        ∗ (iprop((bigSep Finset.univ fun j : Fin 4 => slotP m c p j (keep c j)) ∗ moved m (xH p) (xP p) c ∗ outP m c p) -∗ Q ⟨⟩))
      ⊢ Run c (finish p (scaleV m c) (shiftV m c)) Q := by
  rw [bigSep_fin4]
  unfold outE
  iintro ⟨⟨H0, H1, H2, H3⟩, Hm, ⟨%f, Ho⟩, Hk⟩
  unfold finish Run
  rw [wp_bind]
  iapply (run_readSlot m c p 0 (keep c 0))
  isplitl [H0]; · iexact H0
  iintro H0
  rw [wp_bind]
  iapply (run_readSlot m c p 1 (keep c 1))
  isplitl [H1]; · iexact H1
  iintro H1
  rw [wp_bind]
  iapply (run_readSlot m c p 2 (keep c 2))
  isplitl [H2]; · iexact H2
  iintro H2
  rw [wp_bind]
  iapply (run_readSlot m c p 3 (keep c 3))
  isplitl [H3]; · iexact H3
  iintro H3
  unfold moved
  icases Hm with ⟨Hx, Hh⟩
  simp only [Prog.lift, Prog.bind_op, Prog.bind_ret, Prog.pure_eq_ret]
  iapply (wp_load_rect 𝒱₀ (c : Thread nD τ) none Set.univ (m := xV) (r := pieceR p) (S := (xP p).view.set) Finset.Subset.rfl) $$ Hx
  iintro Hx
  rw [read_piece]
  iapply (wp_load_rect 𝒱₀ (c : Thread nD τ) none Set.univ (m := oV) (r := pieceR p) (S := (oV.view.slice (pieceR p)).set) Finset.Subset.rfl) $$ Ho
  iintro Ho
  iapply (wp_store 𝒱₀ (c : Thread nD τ) none Set.univ (m := oV) (r := pieceR p) (S := (oV.view.slice (pieceR p)).set) (by rw [View.setOn_univ])) $$ Ho
  iintro Ho
  rw [wp_ret]; imodintro
  iapply Hk
  isplitl [H0 H1 H2 H3]
  · isplitl [H0]; · iexact H0
    isplitl [H1]; · iexact H1
    isplitl [H2] <;> iassumption
  isplitl [Hx Hh]
  · isplitl [Hx] <;> iassumption
  iapply (out_fill m c p f); iexact Ho

/-! ## The states a piece passes through -/

/-- What later stages of piece `p` need and earlier ones carry along. -/
def later (c : Dev nD) (p : Fin 4) : sProp 𝕄 :=
  iprop((bigSep Finset.univ fun k : Fin 3 => ready (F := F) c (rcv p (peer k c))) ∗ outE (F := F) c p)
/-- At the start, -/
def piece0 (c : Dev nD) (p : Fin 4) : sProp 𝕄 :=
  iprop((((xH p).view.loc (c : Thread nD τ) ↦[(xH p).view.set]{fullShare} m ((xH p).view.loc (c : Thread nD τ)))
      ∗ (∃ f, (xP p).view.loc (c : Thread nD τ) ↦[(xP p).view.set]{fullShare} f) ∗ dutyTok ER (ownCell c (xin p)) 0 0 ∗ atPos ER (ownCell c (xin p)) 0 ∅ 0)
    ∗ slotE (F := F) c p c ∗ (sendToks (F := F) c p ∗ bigSep Finset.univ fun k : Fin 3 => atPos ER (ownCell c (snd p k)) 0 ∅ 0) ∗ later (F := F) c p)
/-- its copy started, -/
def piece1 (c : Dev nD) (p : Fin 4) : sProp 𝕄 :=
  iprop(ready (F := F) c (xin p) ∗ slotE (F := F) c p c ∗ (sendToks (F := F) c p ∗ bigSep Finset.univ fun k : Fin 3 => atPos ER (ownCell c (snd p k)) 0 ∅ 0) ∗ later (F := F) c p)
/-- its statistics left, -/
def piece2 (c : Dev nD) (p : Fin 4) : sProp 𝕄 :=
  iprop((semVal (ownCell c (xin p)) 0 ∗ moved m (xH p) (xP p) c) ∗ slotP m c p c fullShare
    ∗ (sendToks (F := F) c p ∗ bigSep Finset.univ fun k : Fin 3 => atPos ER (ownCell c (snd p k)) 0 ∅ 0) ∗ later (F := F) c p)
/-- its statistics sent, -/
def piece3 (c : Dev nD) (p : Fin 4) : sProp 𝕄 :=
  iprop((semVal (ownCell c (xin p)) 0 ∗ moved m (xH p) (xP p) c) ∗ slotP m c p c fullShare.right
    ∗ (bigSep Finset.univ fun k : Fin 3 => ready (F := F) c (snd p k)) ∗ later (F := F) c p)
/-- its result written, -/
def piece4 (c : Dev nD) (p : Fin 4) : sProp 𝕄 :=
  iprop((semVal (ownCell c (xin p)) 0 ∗ moved m (xH p) (xP p) c) ∗ slotP m c p c fullShare.right
    ∗ (bigSep Finset.univ fun k : Fin 3 => ready (F := F) c (snd p k))
    ∗ (bigSep Finset.univ fun k : Fin 3 => semVal (ownCell c (rcv p (peer k c))) 0) ∗ (bigSep Finset.univ fun k : Fin 3 => slotP m c p (peer k c) fullShare) ∗ outP m c p)
/-- its transfers gone. -/
def piece5 (c : Dev nD) (p : Fin 4) : sProp 𝕄 :=
  iprop((semVal (ownCell c (xin p)) 0 ∗ moved m (xH p) (xP p) c) ∗ (bigSep Finset.univ fun k : Fin 3 => semVal (ownCell c (snd p k)) 0)
    ∗ (bigSep Finset.univ fun k : Fin 3 => semVal (ownCell c (rcv p (peer k c))) 0) ∗ (bigSep Finset.univ fun j : Fin 4 => slotP m c p j fullShare) ∗ outP m c p)

theorem stage_copy (c : Dev nD) (p : Fin 4) (Q : PUnit → sProp 𝕄) :
    iprop(records m ∗ piece0 m c p ∗ (piece1 (F := F) c p -∗ Q ⟨⟩)) ⊢ Run c (copyX p) Q := by
  unfold piece0 piece1 ready
  iintro ⟨#HR, ⟨⟨Hs, Hd, Ht, Hat⟩, Hslot, Hsend, Hl⟩, Hk⟩
  iapply (run_copy m c (xin p) (xH p) (xP p) _ _ _ rfl rfl rfl Q)
  isplitr; · iexact HR
  isplitl [Hs]; · iexact Hs
  isplitl [Hd]; · iexact Hd
  isplitl [Ht]; · iexact Ht
  iintro Hc
  iapply Hk
  isplitl [Hc Hat]
  · isplitl [Hc] <;> iassumption
  isplitl [Hslot]; · iexact Hslot
  isplitl [Hsend] <;> iassumption

theorem stage_stats (c : Dev nD) (p : Fin 4) (l : List (Fin 4 × Fin 3)) (Q : PUnit → sProp 𝕄) :
    iprop(records m ∗ levAts L lv ∗ owing c (owedL c l) ∗ piece1 (F := F) c p ∗ (iprop(piece2 m c p ∗ owing c (owedL c l)) -∗ Q ⟨⟩)) ⊢ Run c (stats p c) Q := by
  unfold piece1 piece2 ready
  iintro ⟨#HR, #Hlev, Ho, ⟨⟨Hc, Hat⟩, Hslot, Hsend, Hl⟩, Hk⟩
  iapply (run_stats m c p l Q)
  isplitr; · iexact HR
  isplitr; · iexact Hlev
  isplitl [Ho]; · iexact Ho
  isplitl [Hc]; · iexact Hc
  isplitl [Hat]; · iexact Hat
  isplitl [Hslot]; · iexact Hslot
  iintro ⟨Hz, Hm, Hslot, Ho⟩
  iapply Hk
  isplitr [Ho]
  · isplitl [Hz Hm]
    · isplitl [Hz] <;> iassumption
    isplitl [Hslot]; · iexact Hslot
    isplitl [Hsend] <;> iassumption
  iexact Ho

theorem stage_send (c : Dev nD) (p : Fin 4) (l : List (Fin 4 × Fin 3)) (Q : PUnit → sProp 𝕄) :
    iprop(records m ∗ owing c (owedL c ((p, 0) :: (p, 1) :: (p, 2) :: l)) ∗ piece2 m c p ∗ (bigSep Finset.univ fun k : Fin 3 => slotE (F := F) (peer k c) p c)
        ∗ (iprop(piece3 m c p ∗ owing c (owedL c l)) -∗ Q ⟨⟩)) ⊢ Run c (sends p c) Q := by
  unfold piece2 piece3 ready
  iintro ⟨#HR, Ho, ⟨Hx, Hslot, ⟨Hsend, Hat⟩, Hl⟩, Hp, Hk⟩
  iapply (run_sends m c p l Q)
  isplitr; · iexact HR
  isplitl [Hslot]; · iexact Hslot
  isplitl [Hp]; · iexact Hp
  isplitl [Hsend]; · iexact Hsend
  isplitl [Ho]; · iexact Ho
  iintro ⟨Hslot, Hc, Ho⟩
  iapply Hk
  isplitr [Ho]
  · isplitl [Hx]; · iexact Hx
    isplitl [Hslot]; · iexact Hslot
    isplitl [Hc Hat]
    · rw [bigSep_sep']
      isplitl [Hc]
      · iapply (show (bigSep Finset.univ fun k : Fin 3 => cred (tallyAt (ownCell c (snd p k)) () Ns) : sProp 𝕄)
          ⊢ bigSep Finset.univ fun k : Fin 3 => cred (tallyAt (ownCell c (snd p k)) () (amtOf (.inr (snd p k)))) from .rfl)
        iexact Hc
      iexact Hat
    iexact Hl
  iexact Ho

theorem stage_finish (c : Dev nD) (p : Fin 4) {β : Type} (K : Prg F β) (Q : β → sProp 𝕄) :
    iprop(records m ∗ levAts L lv ∗ owing c (owedL c []) ∗ piece3 m c p ∗ (iprop(piece4 m c p ∗ owing c (owedL c [])) -∗ Run c K Q))
      ⊢ Run c (waitSlots p c >>= fun _ => finish p (scaleV m c) (shiftV m c) >>= fun _ => K) Q := by
  unfold piece3 piece4 later
  iintro ⟨#HR, #Hlev, Ho, ⟨Hx, Hslot, Hs, Hr, Hout⟩, Hk⟩
  unfold Run
  rw [wp_bind]
  iapply (run_waitSlots m c p)
  isplitr; · iexact HR
  isplitr; · iexact Hlev
  isplitl [Hr]; · iexact Hr
  isplitl [Ho]; · iexact Ho
  iintro ⟨Hz, Hsl, Ho⟩
  rw [wp_bind]
  icases Hx with ⟨Hx, Hm⟩
  iapply (run_finish m c p)
  rw [keep_mesh]
  isplitl [Hslot Hsl]
  · isplitl [Hslot] <;> iassumption
  isplitl [Hm]; · iexact Hm
  isplitl [Hout]; · iexact Hout
  iintro ⟨⟨Hslot, Hsl⟩, Hm, Hout⟩
  iapply Hk
  isplitr [Ho]
  · isplitl [Hx Hm]
    · isplitl [Hx] <;> iassumption
    isplitl [Hslot]; · iexact Hslot
    isplitl [Hs]; · iexact Hs
    isplitl [Hz]; · iexact Hz
    isplitl [Hsl] <;> iassumption
  iexact Ho

theorem stage_sent (c : Dev nD) (p : Fin 4) (Q : PUnit → sProp 𝕄) :
    iprop(records m ∗ levAts L lv ∗ owing c (owedL c []) ∗ piece4 m c p ∗ (iprop(piece5 m c p ∗ owing c (owedL c [])) -∗ Q ⟨⟩)) ⊢ Run c (waitSents p c) Q := by
  unfold piece4 piece5
  iintro ⟨#HR, #Hlev, Ho, ⟨Hx, Hslot, Hs, Hz, Hsl, Hout⟩, Hk⟩
  iapply (run_waitSents m c p)
  isplitr; · iexact HR
  isplitr; · iexact Hlev
  isplitl [Hs]; · iexact Hs
  isplitl [Hslot]; · iexact Hslot
  isplitl [Ho]; · iexact Ho
  iintro ⟨Hsz, Hslot, Ho⟩
  iapply Hk
  isplitr [Ho]
  · isplitl [Hx]; · iexact Hx
    isplitl [Hsz]; · iexact Hsz
    isplitl [Hz]; · iexact Hz
    isplitl [Hslot Hsl]
    · rw [bigSep_mesh c]
      isplitl [Hslot] <;> iassumption
    iexact Hout
  iexact Ho

end Cert.KernelIdeal.Norm

end
-- ==== Proof.Whole.lean ====
/-
The body of one device: its stages one after another.
-/
module

public import proofs.«01_k».proof.Proof.Stages

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The other operands -/

/-- An operand before its copy starts, -/
def oper0 {s : Shape} (c : Dev nD) (src : Memref sig .tc .hbm s .f32) (dst : Memref sig .tc .vmem s .f32) (i : Fin 3) : sProp 𝕄 :=
  iprop((src.view.loc (c : Thread nD τ) ↦[src.view.set]{fullShare} m (src.view.loc (c : Thread nD τ)))
    ∗ (∃ f, dst.view.loc (c : Thread nD τ) ↦[dst.view.set]{fullShare} f) ∗ dutyTok ER (ownCell c (opn i)) 0 0 ∗ atPos ER (ownCell c (opn i)) 0 ∅ 0)
/-- and once it has arrived. -/
def oper2 {s : Shape} (c : Dev nD) (src : Memref sig .tc .hbm s .f32) (dst : Memref sig .tc .vmem s .f32) (i : Fin 3) : sProp 𝕄 :=
  iprop(semVal (ownCell c (opn i)) 0 ∗ moved m src dst c)

theorem stage_copyOp {s : Shape} (c : Dev nD) (src : Memref sig .tc .hbm s .f32) (dst : Memref sig .tc .vmem s .f32) (hs hd) (i : Fin 3)
    (hk : dst.view.amount (osem (opn i)) = amtOf (.inr (opn i))) (hpay : payOf m c (.inr (opn i)) 0 = moved m src dst c) (Q : PUnit → sProp 𝕄) :
    iprop(records m ∗ oper0 m c src dst i ∗ (ready (F := F) c (opn i) -∗ Q ⟨⟩)) ⊢ Run c (copyOp src dst hs hd i) Q := by
  unfold oper0 ready
  iintro ⟨#HR, ⟨Hs, Hd, Ht, Hat⟩, Hk⟩
  iapply (run_copy m c (opn i) src dst hs hd _ hk rfl hpay Q)
  isplitr; · iexact HR
  isplitl [Hs]; · iexact Hs
  isplitl [Hd]; · iexact Hd
  isplitl [Ht]; · iexact Ht
  iintro Hc
  iapply Hk
  isplitl [Hc] <;> iassumption

theorem stage_waitOp {s : Shape} (c : Dev nD) (src : Memref sig .tc .hbm s .f32) (dst : Memref sig .tc .vmem s .f32) (hs hd) (i : Fin 3)
    (hk : dst.view.dmaCredit = amtOf (.inr (opn i))) (hpay : payOf m c (.inr (opn i)) 0 = moved m src dst c) (Q : PUnit → sProp 𝕄) :
    iprop(records m ∗ levAts L lv ∗ owing c (owedL c []) ∗ ready (F := F) c (opn i) ∗ (iprop(oper2 m c src dst i ∗ owing c (owedL c [])) -∗ Q ⟨⟩))
      ⊢ Run c (waitOp src dst hs hd i) Q := by
  unfold oper2
  rw [← hpay]
  iintro ⟨#HR, #Hlev, Ho, Hr, Hk⟩
  iapply (run_wait_last m c (opn i) (.waitDma2 (opS i) src dst hs hd) dst.view.dmaCredit (wpE_waitDma2_eq 𝒱₀ (c : Thread nD τ) none Set.univ) hk rfl Q)
  isplitr; · iexact HR
  isplitr; · iexact Hlev
  isplitl [Hr]; · iexact Hr
  isplitl [Ho]; · iexact Ho
  iintro ⟨Hz, Hp, Ho⟩
  iapply Hk
  isplitr [Ho]
  · isplitl [Hz] <;> iassumption
  iexact Ho

/-- All three before, and after. -/
def opers0 (c : Dev nD) : sProp 𝕄 := iprop(oper0 m c tA tV 0 ∗ oper0 m c aA aV 1 ∗ oper0 m c bA bV 2)
def opers2 (c : Dev nD) : sProp 𝕄 := iprop(oper2 m c tA tV 0 ∗ oper2 m c aA aV 1 ∗ oper2 m c bA bV 2)

theorem stage_waitOps (c : Dev nD) (Q : PUnit → sProp 𝕄) :
    iprop(records m ∗ levAts L lv ∗ owing c (owedL c []) ∗ (bigSep Finset.univ fun i : Fin 3 => ready (F := F) c (opn i))
        ∗ (iprop(opers2 m c ∗ owing c (owedL c [])) -∗ Q ⟨⟩)) ⊢ Run c waitOps Q := by
  unfold opers2
  rw [bigSep_fin3]
  iintro ⟨#HR, #Hlev, Ho, ⟨H0, H1, H2⟩, Hk⟩
  unfold waitOps Run
  rw [wp_bind]
  iapply (stage_waitOp m c tA tV _ _ 0 rfl rfl)
  isplitr; · iexact HR
  isplitr; · iexact Hlev
  isplitl [Ho]; · iexact Ho
  isplitl [H0]; · iexact H0
  iintro ⟨H0, Ho⟩
  rw [wp_bind]
  iapply (stage_waitOp m c aA aV _ _ 1 rfl rfl)
  isplitr; · iexact HR
  isplitr; · iexact Hlev
  isplitl [Ho]; · iexact Ho
  isplitl [H1]; · iexact H1
  iintro ⟨H1, Ho⟩
  iapply (stage_waitOp m c bA bV _ _ 2 rfl rfl)
  isplitr; · iexact HR
  isplitr; · iexact Hlev
  isplitl [Ho]; · iexact Ho
  isplitl [H2]; · iexact H2
  iintro ⟨H2, Ho⟩
  iapply Hk
  isplitr [Ho]
  · isplitl [H0]; · iexact H0
    isplitl [H1] <;> iassumption
  iexact Ho

theorem stage_project (c : Dev nD) (Q : (FVec F S4x1x256 .f32 ×' FVec F S4x1x256 .f32) → sProp 𝕄) :
    iprop(opers2 m c ∗ (opers2 m c -∗ Q ⟨scaleV m c, shiftV m c⟩)) ⊢ Run c project Q := by
  unfold opers2 oper2
  iintro ⟨⟨⟨Hz0, H0⟩, ⟨Hz1, H1⟩, Hz2, H2⟩, Hk⟩
  iapply (run_project m c Q)
  isplitl [H0]; · iexact H0
  isplitl [H1]; · iexact H1
  isplitl [H2]; · iexact H2
  iintro ⟨H0, H1, H2⟩
  iapply Hk
  isplitl [Hz0 H0]
  · isplitl [Hz0] <;> iassumption
  isplitl [Hz1 H1]
  · isplitl [Hz1] <;> iassumption
  isplitl [Hz2] <;> iassumption

/-! ## All copies, and the handshake -/

theorem stage_copies (c : Dev nD) (Q : PUnit → sProp 𝕄) :
    iprop(records m ∗ (bigSep Finset.univ fun p : Fin 4 => piece0 m c p) ∗ opers0 m c
        ∗ (iprop((bigSep Finset.univ fun p : Fin 4 => piece1 (F := F) c p) ∗ bigSep Finset.univ fun i : Fin 3 => ready (F := F) c (opn i)) -∗ Q ⟨⟩)) ⊢ Run c copies Q := by
  unfold opers0
  rw [bigSep_fin4, bigSep_fin4, bigSep_fin3]
  iintro ⟨#HR, ⟨P0, P1, P2, P3⟩, ⟨H0, H1, H2⟩, Hk⟩
  unfold copies Run
  rw [wp_bind]
  iapply (stage_copy m c 0)
  isplitr; · iexact HR
  isplitl [P0]; · iexact P0
  iintro P0
  rw [wp_bind]
  iapply (stage_copy m c 1)
  isplitr; · iexact HR
  isplitl [P1]; · iexact P1
  iintro P1
  rw [wp_bind]
  iapply (stage_copy m c 2)
  isplitr; · iexact HR
  isplitl [P2]; · iexact P2
  iintro P2
  rw [wp_bind]
  iapply (stage_copy m c 3)
  isplitr; · iexact HR
  isplitl [P3]; · iexact P3
  iintro P3
  rw [wp_bind]
  iapply (stage_copyOp m c tA tV _ _ 0 rfl rfl)
  isplitr; · iexact HR
  isplitl [H0]; · iexact H0
  iintro H0
  rw [wp_bind]
  iapply (stage_copyOp m c aA aV _ _ 1 rfl rfl)
  isplitr; · iexact HR
  isplitl [H1]; · iexact H1
  iintro H1
  iapply (stage_copyOp m c bA bV _ _ 2 rfl rfl)
  isplitr; · iexact HR
  isplitl [H2]; · iexact H2
  iintro H2
  iapply Hk
  isplitl [P0 P1 P2 P3]
  · isplitl [P0]; · iexact P0
    isplitl [P1]; · iexact P1
    isplitl [P2] <;> iassumption
  isplitl [H0]; · iexact H0
  isplitl [H1] <;> iassumption

/-- What device `c` hands each peer with its signal, and the token it pays with. -/
def greet (c : Dev nD) (k : Fin 3) : sProp 𝕄 :=
  iprop(dutyTok ER (barCell (peer k c)) 0 c ∗ bigSep Finset.univ fun p : Fin 4 => slotE (F := F) c p (peer k c))

theorem stage_signal (c : Dev nD) (k : Fin 3) (O : CellTallies nD τ sig Unit) (Q : PUnit → sProp 𝕄) :
    iprop(records m ∗ owing c (O + tallyAt (barCell (peer k c)) () 1) ∗ greet (F := F) c k ∗ (owing c O -∗ Q ⟨⟩)) ⊢ Run c (signal k c) Q := by
  unfold greet
  iintro ⟨#HR, Ho, ⟨Ht, Hs⟩, Hk⟩
  iapply (run_signal m c k O Q)
  isplitr; · iexact HR
  isplitl [Ho]; · iexact Ho
  isplitl [Ht]; · iexact Ht
  isplitl [Hs] <;> iassumption

theorem stage_signals (c : Dev nD) (Q : PUnit → sProp 𝕄) :
    iprop(records m ∗ owing c (owed₀ c) ∗ (bigSep Finset.univ fun k : Fin 3 => greet (F := F) c k) ∗ (owing c (owedL c pairs) -∗ Q ⟨⟩)) ⊢ Run c (signals c) Q := by
  unfold owed₀
  rw [bigSep_fin3]
  iintro ⟨#HR, Ho, ⟨H0, H1, H2⟩, Hk⟩
  unfold signals Run
  rw [wp_bind]
  iapply (stage_signal m c 0 _)
  isplitr; · iexact HR
  isplitl [Ho]; · iexact Ho
  isplitl [H0]; · iexact H0
  iintro Ho
  rw [wp_bind]
  iapply (stage_signal m c 1 _)
  isplitr; · iexact HR
  isplitl [Ho]; · iexact Ho
  isplitl [H1]; · iexact H1
  iintro Ho
  iapply (stage_signal m c 2 _)
  isplitr; · iexact HR
  isplitl [Ho]; · iexact Ho
  isplitl [H2]; · iexact H2
  iexact Hk

/-! ## The body -/

/-- What a device's body starts with, -/
def body0 (c : Dev nD) : sProp 𝕄 :=
  iprop((bigSep Finset.univ fun p : Fin 4 => piece0 m c p) ∗ opers0 m c ∗ (bigSep Finset.univ fun k : Fin 3 => greet (F := F) c k)
    ∗ cred (tallyAt (barCell c) () 3) ∗ atPos ER (barCell c) 0 ∅ 0)
/-- and what it ends with. -/
def body5 (c : Dev nD) : sProp 𝕄 :=
  iprop((bigSep Finset.univ fun p : Fin 4 => piece5 m c p) ∗ opers2 m c ∗ semVal (barCell c) 0)

theorem run_body (c : Dev nD) (Q : PUnit → sProp 𝕄) :
    iprop(records m ∗ levAts L lv ∗ owing c (owed₀ c) ∗ body0 m c ∗ (iprop(body5 m c ∗ owing c 0) -∗ Q ⟨⟩)) ⊢ Run c body Q := by
  unfold body0 body5
  iintro ⟨#HR, #Hlev, Ho, ⟨HP, Hop, Hg, Hbc, Hba⟩, Hk⟩
  unfold body Run Prog.lift
  rw [Prog.bind_op, wp_deviceId]
  simp only [Prog.bind_ret]
  rw [wp_bind]
  iapply (stage_copies m c)
  isplitr; · iexact HR
  isplitl [HP]; · iexact HP
  isplitl [Hop]; · iexact Hop
  iintro ⟨HP, Hop⟩
  rw [wp_bind]
  iapply (stage_signals m c)
  isplitr; · iexact HR
  isplitl [Ho]; · iexact Ho
  isplitl [Hg]; · iexact Hg
  iintro Ho
  ihave HP := (Entails.of_eq (bigSep_fin4 fun p => piece1 (F := F) c p)) $$ HP
  icases HP with ⟨P0, P1, P2, P3⟩
  unfold pairs
  rw [wp_bind]
  iapply (stage_stats m c 0)
  isplitr; · iexact HR
  isplitr; · iexact Hlev
  isplitl [Ho]; · iexact Ho
  isplitl [P0]; · iexact P0
  iintro ⟨P0, Ho⟩
  rw [wp_bind]
  iapply (run_barrier m c)
  isplitr; · iexact HR
  isplitr; · iexact Hlev
  isplitl [Hbc]; · iexact Hbc
  isplitl [Ho]; · iexact Ho
  isplitl [Hba]; · iexact Hba
  iintro ⟨Hbz, Hsl, Ho⟩
  ihave Hsl := (Entails.of_eq (bigSep_univ_comm fun (k : Fin 3) (p : Fin 4) => slotE (F := F) (peer k c) p c)) $$ Hsl
  ihave Hsl := (Entails.of_eq (bigSep_fin4 fun p => bigSep Finset.univ fun k : Fin 3 => slotE (F := F) (peer k c) p c)) $$ Hsl
  icases Hsl with ⟨S0, S1, S2, S3⟩
  rw [wp_bind]
  iapply (stage_send m c 0)
  isplitr; · iexact HR
  isplitl [Ho]; · iexact Ho
  isplitl [P0]; · iexact P0
  isplitl [S0]; · iexact S0
  iintro ⟨P0, Ho⟩
  rw [wp_bind]
  iapply (stage_stats m c 1)
  isplitr; · iexact HR
  isplitr; · iexact Hlev
  isplitl [Ho]; · iexact Ho
  isplitl [P1]; · iexact P1
  iintro ⟨P1, Ho⟩
  rw [wp_bind]
  iapply (stage_send m c 1)
  isplitr; · iexact HR
  isplitl [Ho]; · iexact Ho
  isplitl [P1]; · iexact P1
  isplitl [S1]; · iexact S1
  iintro ⟨P1, Ho⟩
  rw [wp_bind]
  iapply (stage_stats m c 2)
  isplitr; · iexact HR
  isplitr; · iexact Hlev
  isplitl [Ho]; · iexact Ho
  isplitl [P2]; · iexact P2
  iintro ⟨P2, Ho⟩
  rw [wp_bind]
  iapply (stage_send m c 2)
  isplitr; · iexact HR
  isplitl [Ho]; · iexact Ho
  isplitl [P2]; · iexact P2
  isplitl [S2]; · iexact S2
  iintro ⟨P2, Ho⟩
  rw [wp_bind]
  iapply (stage_stats m c 3)
  isplitr; · iexact HR
  isplitr; · iexact Hlev
  isplitl [Ho]; · iexact Ho
  isplitl [P3]; · iexact P3
  iintro ⟨P3, Ho⟩
  rw [wp_bind]
  iapply (stage_send m c 3)
  isplitr; · iexact HR
  isplitl [Ho]; · iexact Ho
  isplitl [P3]; · iexact P3
  isplitl [S3]; · iexact S3
  iintro ⟨P3, Ho⟩
  rw [wp_bind]
  iapply (stage_waitOps m c)
  isplitr; · iexact HR
  isplitr; · iexact Hlev
  isplitl [Ho]; · iexact Ho
  isplitl [Hop]; · iexact Hop
  iintro ⟨Hop, Ho⟩
  rw [wp_bind]
  iapply (stage_project m c)
  isplitl [Hop]; · iexact Hop
  iintro Hop
  iapply (stage_finish m c 0)
  isplitr; · iexact HR
  isplitr; · iexact Hlev
  isplitl [Ho]; · iexact Ho
  isplitl [P0]; · iexact P0
  iintro ⟨P0, Ho⟩
  iapply (stage_finish m c 1)
  isplitr; · iexact HR
  isplitr; · iexact Hlev
  isplitl [Ho]; · iexact Ho
  isplitl [P1]; · iexact P1
  iintro ⟨P1, Ho⟩
  iapply (stage_finish m c 2)
  isplitr; · iexact HR
  isplitr; · iexact Hlev
  isplitl [Ho]; · iexact Ho
  isplitl [P2]; · iexact P2
  iintro ⟨P2, Ho⟩
  iapply (stage_finish m c 3)
  isplitr; · iexact HR
  isplitr; · iexact Hlev
  isplitl [Ho]; · iexact Ho
  isplitl [P3]; · iexact P3
  iintro ⟨P3, Ho⟩
  unfold Run
  rw [wp_bind]
  iapply (stage_sent m c 0)
  isplitr; · iexact HR
  isplitr; · iexact Hlev
  isplitl [Ho]; · iexact Ho
  isplitl [P0]; · iexact P0
  iintro ⟨P0, Ho⟩
  rw [wp_bind]
  iapply (stage_sent m c 1)
  isplitr; · iexact HR
  isplitr; · iexact Hlev
  isplitl [Ho]; · iexact Ho
  isplitl [P1]; · iexact P1
  iintro ⟨P1, Ho⟩
  rw [wp_bind]
  iapply (stage_sent m c 2)
  isplitr; · iexact HR
  isplitr; · iexact Hlev
  isplitl [Ho]; · iexact Ho
  isplitl [P2]; · iexact P2
  iintro ⟨P2, Ho⟩
  iapply (stage_sent m c 3)
  isplitr; · iexact HR
  isplitr; · iexact Hlev
  isplitl [Ho]; · iexact Ho
  isplitl [P3]; · iexact P3
  iintro ⟨P3, Ho⟩
  iapply Hk
  isplitr [Ho]
  · isplitl [P0 P1 P2 P3]
    · rw [bigSep_fin4]
      isplitl [P0]; · iexact P0
      isplitl [P1]; · iexact P1
      isplitl [P2] <;> iassumption
    isplitl [Hop] <;> iassumption
  iapply (show (owing c (owedL c []) : sProp 𝕄) ⊢ owing c 0 from .rfl); iexact Ho

end Cert.KernelIdeal.Norm

end
-- ==== Proof.Ghost.lean ====
/-
The ghost state the launch deals: every cell's invariant shared by all devices, and to each device the tokens of
the duties it pays. Also the credit each device holds at launch, which is what the others owe it.
-/
module

public import proofs.«01_k».proof.Proof.Whole

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Products over the semaphores and over the mesh -/

omit [FloatOps F] in
/-- A product over all of a device's semaphores, by kind, the receive semaphores from the device's own place on the mesh. -/
theorem own_split (c : Dev nD) (Φ : Own → sProp 𝕄) :
    bigSep Finset.univ Φ = iprop((bigSep Finset.univ fun p : Fin 4 => Φ (xin p)) ∗ (bigSep Finset.univ fun i : Fin 3 => Φ (opn i))
      ∗ (bigSep Finset.univ fun p : Fin 4 => bigSep Finset.univ fun k : Fin 3 => Φ (snd p k))
      ∗ (bigSep Finset.univ fun p : Fin 4 => Φ (rcv p c)) ∗ bigSep Finset.univ fun p : Fin 4 => bigSep Finset.univ fun k : Fin 3 => Φ (rcv p (peer k c))) := by
  rw [bigSep_univ_sum, bigSep_univ_sum, bigSep_univ_sum, bigSep_univ_prod, bigSep_univ_prod, ← bigSep_sep']
  exact congrArg (fun X : sProp 𝕄 => iprop((bigSep Finset.univ fun p : Fin 4 => Φ (xin p)) ∗ (bigSep Finset.univ fun i : Fin 3 => Φ (opn i))
      ∗ (bigSep Finset.univ fun p : Fin 4 => bigSep Finset.univ fun k : Fin 3 => Φ (snd p k)) ∗ X))
    (bigSep_congr fun p _ => bigSep_mesh c fun j => Φ (rcv p j))
omit [FloatOps F] in
theorem key_split (Φ : Key → sProp 𝕄) : bigSep Finset.univ Φ = iprop(Φ bar ∗ bigSep Finset.univ fun o : Own => Φ (.inr o)) := by
  rw [bigSep_univ_sum]
  exact congrArg (fun X : sProp 𝕄 => iprop(X ∗ bigSep Finset.univ fun o : Own => Φ (.inr o))) (bigSep_univ_eq_bigSepL [()] (by decide) (by decide) fun u : Unit => Φ (.inl u))

/-- A device and a step seen from the device the step leads to. -/
def swap : Dev nD × Fin 3 ≃ Dev nD × Fin 3 where
  toFun x := (peer x.2 x.1, x.2.rev)
  invFun x := (peer x.2 x.1, x.2.rev)
  left_inv x := Prod.ext (peer_rev x.2 x.1) (Fin.rev_rev x.2)
  right_inv x := Prod.ext (peer_rev x.2 x.1) (Fin.rev_rev x.2)

omit [FloatOps F] in
/-- Over all pairs of different devices, the first named by the second or the second by the first. -/
theorem mesh_swap (Φ : Dev nD → Dev nD → sProp 𝕄) :
    (bigSep Finset.univ fun c : Dev nD => bigSep Finset.univ fun k : Fin 3 => Φ c (peer k c))
      = bigSep Finset.univ fun c : Dev nD => bigSep Finset.univ fun k : Fin 3 => Φ (peer k c) c := by
  rw [← bigSep_univ_prod (fun x : Dev nD × Fin 3 => Φ x.1 (peer x.2 x.1)), ← bigSep_univ_prod (fun x : Dev nD × Fin 3 => Φ (peer x.2 x.1) x.1),
    bigSep_univ_equiv swap]
  exact bigSep_congr fun x _ => congrArg (Φ (peer x.2 x.1)) (peer_rev x.2 x.1)

/-! ## Funding -/

def normCells : Finset (GSem nD τ sig) := Finset.univ.map ⟨fun ca : Dev nD × Key => cell ca.1 ca.2, cell_injective⟩

/-- The duties minted: a barrier's three by its peers, one at every other cell. -/
def tokOf (x : Dev nD × (Fin 3 ⊕ Own)) : GSem nD τ sig × ℕ × Dev nD := match x.2 with
  | .inl k => (barCell x.1, 0, peer k x.1)
  | .inr o => (ownCell x.1 o, 0, 0)
theorem tokOf_injective : Function.Injective tokOf := by
  rintro ⟨c, k | o⟩ ⟨c', k' | o'⟩ h
  · have h1 : c = c' := congrArg (fun x : GSem nD τ sig × ℕ × Dev nD => x.1.1.1) h
    subst h1
    have h2 : peer k c = peer k' c := congrArg (fun x : GSem nD τ sig × ℕ × Dev nD => x.2.2) h
    rw [peer_inj k k' c h2]
  · exact absurd (congrArg Prod.snd (cell_injective (a₁ := (c, bar)) (a₂ := (c', .inr o')) (congrArg Prod.fst h))) (by simp)
  · exact absurd (congrArg Prod.snd (cell_injective (a₁ := (c, .inr o)) (a₂ := (c', bar)) (congrArg Prod.fst h))) (by simp)
  · have := cell_injective (a₁ := (c, .inr o)) (a₂ := (c', .inr o')) (congrArg Prod.fst h)
    simp only [Prod.mk.injEq, Sum.inr.injEq] at this
    rw [this.1, this.2]
def normToks : Finset (GSem nD τ sig × ℕ × Dev nD) := Finset.univ.map ⟨tokOf, tokOf_injective⟩

def u₀ : UU :=
  (initOf (Pipeline.cells cfgs cellOf_inj) (Pipeline.launchToks cfgs cellOf_inj), initOf normCells normToks)

/-- The tokens of device `c`'s own cells, -/
def toks (c : Dev nD) : sProp 𝕄 :=
  iprop((bigSep Finset.univ fun k : Fin 3 => dutyTok ER (barCell c) 0 (peer k c)) ∗ bigSep Finset.univ fun o : Own => dutyTok ER (ownCell c o) 0 0)
/-- and those of the duties it pays. -/
def payToks (c : Dev nD) : sProp 𝕄 :=
  iprop((bigSep Finset.univ fun k : Fin 3 => dutyTok ER (barCell (peer k c)) 0 c) ∗ (bigSep Finset.univ fun p : Fin 4 => dutyTok ER (ownCell c (xin p)) 0 0)
    ∗ (bigSep Finset.univ fun i : Fin 3 => dutyTok ER (ownCell c (opn i)) 0 0) ∗ bigSep Finset.univ fun p : Fin 4 => sendToks (F := F) c p)

/-- What the launch deals a device, -/
def G (c : Dev nD) : sProp 𝕄 :=
  iprop((bigSep Finset.univ fun a : Key => roundState ER (sched m) (cell c a) 0)
    ∗ (bigSep Finset.univ fun a : Key => atPos ER (cell c a) 0 ∅ 0) ∗ (bigSep Finset.univ fun a : Key => reached ER (cell c a) 0) ∗ toks (F := F) c)
/-- and what it has once the invariants are set up. -/
def G' (c : Dev nD) : sProp 𝕄 :=
  iprop(records m ∗ (bigSep Finset.univ fun a : Key => atPos ER (cell c a) 0 ∅ 0) ∗ payToks (F := F) c)

theorem fund_norm : BI.own (ER (initOf normCells normToks)) ⊢ (|==> bigSep Finset.univ (G m) : sProp 𝕄) := by
  have hX (Φ : GSem nD τ sig → sProp 𝕄) : bigSep normCells Φ = bigSep Finset.univ fun c : Dev nD => bigSep Finset.univ fun a : Key => Φ (cell c a) := by
    unfold normCells; rw [bigSep_map, bigSep_univ_prod]; rfl
  have hT : bigSep normToks (fun x => (dutyTok ER x.1 x.2.1 x.2.2 : sProp 𝕄)) = bigSep Finset.univ fun c : Dev nD => toks c := by
    unfold normToks; rw [bigSep_map, bigSep_univ_prod]
    exact bigSep_congr fun c _ => by unfold toks; rw [bigSep_univ_sum]; rfl
  iintro HX
  imod (Rounds.fund ER (sched m) normCells normToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## Setting the invariants up, and dealing the tokens -/

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun o : Own => semVal (ownCell c o) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun a : Key => iprop((∃ κ : ℕ, cellInv ER (sched m) κ (cell c a)) ∗ reached ER (cell c a) 0))
          ∗ (bigSep Finset.univ fun a : Key => atPos ER (cell c a) 0 ∅ 0) ∗ toks (F := F) c) := by
  unfold G
  rw [ownSems0_eq, unscopedSems0_eq]
  iintro ⟨Hos, Hus, Hst, Hat, Hr, Htok⟩
  imod (show iprop((bigSep Finset.univ fun a : Key => semVal (cell c a) 0) ∗ bigSep Finset.univ fun a : Key => roundState ER (sched m) (cell c a) 0)
      ⊢ (|={Set.univ}=> bigSep Finset.univ fun a => iprop(∃ κ : ℕ, cellInv ER (sched m) κ (cell c a)) : sProp 𝕄) from by
        rw [← bigSep_sep']
        exact (bigSep_mono fun a _ => (Rounds.body_intro ER (sched m) (cell c a)).trans inv_alloc).trans (bigSep_fupd _ _)) $$ [Hos Hus Hst] with Hinv
  · isplitl [Hos Hus]
    · rw [key_split]
      isplitl [Hus]; · iexact Hus
      iexact Hos
    iexact Hst
  imodintro
  isplitl [Hinv Hr]
  · rw [bigSep_sep']
    isplitl [Hinv] <;> iassumption
  isplitl [Hat] <;> iassumption

omit [FloatOps F] in
/-- The tokens dealt out: a barrier's to the devices that signal it, a receive cell's to the device that transfers. -/
theorem toks_around : (bigSep Finset.univ fun c : Dev nD => (toks (F := F) c : sProp 𝕄)) ⊢ bigSep Finset.univ fun c : Dev nD => payToks (F := F) c := by
  have hown : (bigSep Finset.univ fun c : Dev nD => bigSep Finset.univ fun o : Own => (dutyTok ER (ownCell c o) 0 0 : sProp 𝕄))
      = bigSep Finset.univ fun c : Dev nD => _ := bigSep_congr fun c _ => own_split (F := F) c fun o => dutyTok ER (ownCell c o) 0 0
  have hrcv : (bigSep Finset.univ fun c : Dev nD => bigSep Finset.univ fun p : Fin 4 => bigSep Finset.univ fun k : Fin 3 =>
        (dutyTok ER (ownCell c (rcv p (peer k c))) 0 0 : sProp 𝕄))
      = bigSep Finset.univ fun c : Dev nD => bigSep Finset.univ fun p : Fin 4 => bigSep Finset.univ fun k : Fin 3 => dutyTok ER (ownCell (peer k c) (rcv p c)) 0 0 := by
    rw [bigSep_univ_comm, bigSep_congr fun p _ => mesh_swap (F := F) fun c j => dutyTok ER (ownCell c (rcv p j)) 0 0, bigSep_univ_comm]
  unfold toks payToks sendToks
  simp only [bigSep_sep']
  rw [hown]
  simp only [bigSep_sep']
  rw [hrcv, mesh_swap (F := F) fun c j => dutyTok ER (barCell c) 0 j]
  iintro ⟨Hb, Hx, Ho, Hs, -, Hr⟩
  isplitl [Hb]; · iexact Hb
  isplitl [Hx]; · iexact Hx
  isplitl [Ho]; · iexact Ho
  isplitl [Hs] <;> iassumption

theorem cell_record (c : Dev nD) (a : Key) :
    iprop((∃ κ : ℕ, cellInv ER (sched m) κ (cell c a)) ∗ reached ER (cell c a) 0) ⊢ iprop(∃ κ : ℕ, cellInv ER (sched m) κ (cell c a) ∗ reached ER (cell c a) 0) := by
  iintro ⟨⟨%κ, HI⟩, Hr⟩
  iexists κ
  isplitl [HI] <;> iassumption

theorem regroup :
    (bigSep Finset.univ fun c : Dev nD => iprop((bigSep Finset.univ fun a : Key => iprop((∃ κ : ℕ, cellInv ER (sched m) κ (cell c a)) ∗ reached ER (cell c a) 0))
          ∗ (bigSep Finset.univ fun a : Key => atPos ER (cell c a) 0 ∅ 0) ∗ toks (F := F) c) : sProp 𝕄)
      ⊢ bigSep Finset.univ (G' m) := by
  have hrec : (bigSep Finset.univ fun c : Dev nD => bigSep Finset.univ fun a : Key => iprop((∃ κ : ℕ, cellInv ER (sched m) κ (cell c a)) ∗ reached ER (cell c a) 0))
      ⊢ records m := by
    unfold records
    rw [← bigSep_univ_prod (fun ca : Dev nD × Key => iprop((∃ κ : ℕ, cellInv ER (sched m) κ (cell ca.1 ca.2)) ∗ reached ER (cell ca.1 ca.2) 0))]
    exact bigSep_mono fun ca _ => cell_record m ca.1 ca.2
  rw [bigSep_sep', bigSep_sep']
  iintro ⟨HI, Hat, Htok⟩
  ihave #HR := hrec $$ HI
  ihave Htk := (toks_around (F := F)) $$ Htok
  unfold G'
  rw [bigSep_sep', bigSep_sep']
  isplitr
  · iapply (BI.bigSep_of_persistent Finset.univ (records m)); iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device holds at launch -/

theorem own_eq_iff (a b : Dev nD) (o o' : Own) : ownCell a o = ownCell b o' ↔ a = b ∧ o = o' :=
  ⟨fun h => by
    have := cell_injective (a₁ := (a, .inr o)) (a₂ := (b, .inr o')) h
    simpa only [Prod.mk.injEq, Sum.inr.injEq] using this, fun h => by rw [h.1, h.2]⟩
theorem bar_eq_iff (a b : Dev nD) : barCell a = barCell b ↔ a = b :=
  ⟨fun h => congrArg Prod.fst (cell_injective (a₁ := (a, bar)) (a₂ := (b, bar)) h), fun h => by rw [h]⟩
theorem bar_ne_own (a b : Dev nD) (o : Own) : barCell a ≠ ownCell b o := fun h =>
  absurd (congrArg Prod.snd (cell_injective (a₁ := (a, bar)) (a₂ := (b, .inr o)) h)) (by simp)

/-- How many of a list of transfers of device `d` arrive at a receive cell. -/
def hits (c : Dev nD) (p j : Fin 4) (d : Dev nD) (l : List (Fin 4 × Fin 3)) : ℕ :=
  (l.filter fun pk => decide (peer pk.2 d = c ∧ pk.1 = p ∧ d = j)).length

theorem owedL_rcv (c : Dev nD) (p j : Fin 4) (d : Dev nD) (l : List (Fin 4 × Fin 3)) :
    owedL d l (ownCell c (rcv p j)) () = hits c p j d l * Ns := by
  induction l with
  | nil => simp [owedL, hits]
  | cons pk l ih =>
    unfold owedL
    rw [Pi.add_apply, Finsupp.add_apply, ih, tallyAt_apply]
    unfold hits
    by_cases h : peer pk.2 d = c ∧ pk.1 = p ∧ d = j
    · rw [List.filter_cons_of_pos (by simpa using h), List.length_cons, Nat.add_mul, Nat.one_mul, if_pos]
      exact ⟨(own_eq_iff _ _ _ _).mpr ⟨h.1.symm, by rw [h.2.1, h.2.2]⟩, rfl⟩
    · rw [List.filter_cons_of_neg (by simpa using h), if_neg, Nat.add_zero]
      rintro ⟨h', -⟩
      obtain ⟨h1, h2⟩ := (own_eq_iff _ _ _ _).mp h'
      simp only [rcv, Sum.inr.injEq, Prod.mk.injEq] at h2
      exact h ⟨h1.symm, h2.1.symm, h2.2.symm⟩

theorem owedL_bar (c d : Dev nD) (l : List (Fin 4 × Fin 3)) : owedL d l (barCell c) () = 0 := by
  induction l with
  | nil => rfl
  | cons pk l ih =>
    unfold owedL
    rw [Pi.add_apply, Finsupp.add_apply, ih, tallyAt_ne_cell (bar_ne_own _ _ _)]; rfl

theorem owed_rcv (c : Dev nD) (p j : Fin 4) (d : Dev nD) : owed₀ d (ownCell c (rcv p j)) () = hits c p j d pairs * Ns := by
  unfold owed₀
  rw [Pi.add_apply, Finsupp.add_apply, Pi.add_apply, Finsupp.add_apply, Pi.add_apply, Finsupp.add_apply, owedL_rcv,
    tallyAt_ne_cell (bar_ne_own _ _ _).symm, tallyAt_ne_cell (bar_ne_own _ _ _).symm, tallyAt_ne_cell (bar_ne_own _ _ _).symm,
    Finsupp.zero_apply, Nat.add_zero, Nat.add_zero, Nat.add_zero]

theorem tally_bar (a c : Dev nD) (n : ℕ) : (tallyAt (barCell a) () n : CellTallies nD τ sig Unit) (barCell c) () = if c = a then n else 0 := by
  rw [tallyAt_apply]
  by_cases h : c = a
  · rw [if_pos h, if_pos ⟨(bar_eq_iff _ _).mpr h, rfl⟩]
  · rw [if_neg h, if_neg fun h' => h ((bar_eq_iff _ _).mp h'.1)]

theorem owed_bar (c d : Dev nD) : owed₀ d (barCell c) () = (if c = peer 2 d then 1 else 0) + (if c = peer 1 d then 1 else 0) + (if c = peer 0 d then 1 else 0) := by
  have h0 := owedL_bar c d pairs
  have h (k : Fin 3) := tally_bar (peer k d) c 1
  unfold owed₀
  rw [Pi.add_apply, Finsupp.add_apply, Pi.add_apply, Finsupp.add_apply, Pi.add_apply, Finsupp.add_apply, h0, h 0, h 1, h 2, Nat.zero_add]

theorem launch_bar (c : Dev nD) :
    tallyOn (barCell c) (launchCredit (Pipeline.owing owed₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide

theorem hits_one : ∀ (c : Dev nD) (p : Fin 4) (k : Fin 3), ∑ d : Dev nD, hits c p (peer k c) d pairs = 1 := by decide +kernel

theorem launch_rcv (c : Dev nD) (p : Fin 4) (k : Fin 3) :
    tallyOn (ownCell c (rcv p (peer k c))) (launchCredit (Pipeline.owing owed₀) 0 (ownCell c (rcv p (peer k c))))
      = (tallyAt (ownCell c (rcv p (peer k c))) () Ns : CellTallies nD τ sig Unit) := by
  unfold tallyAt; refine congrArg _ (Finsupp.ext fun u => ?_); cases u
  rw [Pipeline.launchCredit_owing, Finsupp.single_eq_same, Finset.sum_congr rfl fun d _ => owed_rcv c p _ d, ← Finset.sum_mul, hits_one, Nat.one_mul]

omit [FloatOps F] in
theorem keys_of (Φ : SemLoc sig → sProp 𝕄) : bigSep Finset.univ Φ ⊢ bigSep Finset.univ fun a : Key => Φ (csem a) :=
  (bigSep_subset (Finset.subset_univ (Finset.univ.map ⟨csem, csem_injective⟩))).trans (Entails.of_eq (bigSep_map _))

omit [FloatOps F] in
theorem creds (c : Dev nD) :
    (Pipeline.launchCred owed₀ c : sProp 𝕄) ⊢ iprop(cred (tallyAt (barCell c) () 3)
      ∗ bigSep Finset.univ fun p : Fin 4 => bigSep Finset.univ fun k : Fin 3 => cred (tallyAt (ownCell c (rcv p (peer k c))) () Ns)) := by
  unfold Pipeline.launchCred
  simp only [← launch_rcv, ← launch_bar]
  iintro H
  ihave H := (keys_of (F := F) fun sm : SemLoc sig => cred (tallyOn ((c.tc : Thread nD τ), sm) (launchCredit (Pipeline.owing owed₀) 0 ((c.tc : Thread nD τ), sm)))) $$ H
  ihave H := (Entails.of_eq (key_split (F := F) _)) $$ H
  icases H with ⟨Hb, Ho⟩
  ihave Ho := (Entails.of_eq (own_split (F := F) c _)) $$ Ho
  icases Ho with ⟨-, -, -, -, Hr⟩
  isplitl [Hb]
  · iexact Hb
  iexact Hr

end Cert.KernelIdeal.Norm

end
-- ==== Proof.Entry.lean ====
/-
Between whole buffers and the pieces the body works on: what a device is launched with is what its body starts from,
and what the body ends with is the buffers again.
-/
module

public import proofs.«01_k».proof.Proof.Ghost

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem all_mono {n : ℕ} {Φ Ψ : Fin n → sProp 𝕄} (h : ∀ p, Φ p ⊢ Ψ p) : bigSep Finset.univ Φ ⊢ bigSep Finset.univ Ψ := bigSep_mono fun p _ => h p

/-! ## A buffer is its pieces, or its slots -/

theorem piece_disj (p p' : Fin 4) (h : p ≠ p') : Disjoint (pieceR p).set (pieceR p').set := by
  rw [Finset.disjoint_left]
  intro i h1 h2
  rw [Rect.mem_set_unit] at h1 h2
  have a1 := h1 1
  have a2 := h2 1
  simp [S4x128x256] at a1 a2
  exact h (Fin.ext (by omega))
theorem piece_cov : (Finset.univ : Finset (Fin 4)).biUnion (fun p => (pieceR p).set) = Finset.univ := by
  ext i
  simp only [Finset.mem_biUnion, Finset.mem_univ, true_and, iff_true]
  refine ⟨pieceOf i, ?_⟩
  rw [Rect.mem_set_unit]
  have h0 : (i 0).val < 4 := (i 0).isLt
  have h1 : (i 1).val < 512 := (i 1).isLt
  have h2 : (i 2).val < 256 := (i 2).isLt
  intro a
  fin_cases a <;> simp [pieceOf, S4x128x256] <;> omega
theorem slot_disj (p p' : Fin 4) (h : p ≠ p') : Disjoint (slotR p).set (slotR p').set := by
  rw [Finset.disjoint_left]
  intro i h1 h2
  rw [Rect.mem_set_unit] at h1 h2
  have a1 := h1 0
  have a2 := h2 0
  simp [S1x2x4x128] at a1 a2
  exact h (Fin.ext (by omega))
theorem slot_cov : (Finset.univ : Finset (Fin 4)).biUnion (fun j => (slotR j).set) = Finset.univ := by
  ext i
  simp only [Finset.mem_biUnion, Finset.mem_univ, true_and, iff_true]
  have h0 : (i 0).val < 4 := (i 0).isLt
  have h1 : (i 1).val < 2 := (i 1).isLt
  have h2 : (i 2).val < 4 := (i 2).isLt
  have h3 : (i 3).val < 128 := (i 3).isLt
  refine ⟨⟨(i 0).val, h0⟩, ?_⟩
  rw [Rect.mem_set_unit]
  intro a
  fin_cases a <;> simp [S1x2x4x128] <;> omega

omit [FloatOps F] in
theorem pieces_pts {sp : Space} (r : Memref sig .tc sp S4x512x256 .f32) (c : Dev nD) (f : r.view.ty.Contents (Elt F)) :
    (r.view.loc (c : Thread nD τ) ↦[r.view.set]{fullShare} f : sProp 𝕄)
      = bigSep Finset.univ fun p : Fin 4 => (r.view.loc (c : Thread nD τ) ↦[(r.view.slice (pieceR p)).set]{fullShare} f) :=
  (pointsTo_rects (c : Thread nD τ) r fullShare (fun p : Fin 4 => pieceR p) (fun _ _ => rfl) piece_disj piece_cov f).trans
    (bigSep_congr fun p _ => owns_slice_read (c : Thread nD τ) r fullShare (pieceR p) (fun _ => rfl) f)
omit [FloatOps F] in
theorem slots_pts (p : Fin 4) (c : Dev nD) (f : (stat p).view.ty.Contents (Elt F)) :
    ((stat p).view.loc (c : Thread nD τ) ↦[(stat p).view.set]{fullShare} f : sProp 𝕄)
      = bigSep Finset.univ fun j : Fin 4 => ((stat p).view.loc (c : Thread nD τ) ↦[((stat p).view.slice (slotR j)).set]{fullShare} f) :=
  (pointsTo_rects (c : Thread nD τ) (stat p) fullShare (fun j : Fin 4 => slotR j) (fun _ _ => rfl) slot_disj slot_cov f).trans
    (bigSep_congr fun j _ => owns_slice_read (c : Thread nD τ) (stat p) fullShare (slotR j) (fun _ => rfl) f)

/-- A buffer held whole at some contents. -/
def anyAt {sp : Space} {s : Shape} (r : Memref sig .tc sp s .f32) (c : Dev nD) : sProp 𝕄 :=
  iprop(∃ f, r.view.loc (c : Thread nD τ) ↦[r.view.set]{fullShare} f)
/-- An operand held whole at its contents at launch. -/
def argAt {s : Shape} (r : Memref sig .tc .hbm s .f32) (c : Dev nD) : sProp 𝕄 :=
  r.view.loc (c : Thread nD τ) ↦[r.view.set]{fullShare} m (r.view.loc (c : Thread nD τ))
def args (c : Dev nD) : sProp 𝕄 := iprop(argAt m xA c ∗ argAt m tA c ∗ argAt m aA c ∗ argAt m bA c)

omit [FloatOps F] in
theorem scratch_eq (c : Dev nD) :
    (Pipeline.scopedRest (Ix := Unit) (Name := ℕ) (U := UU) (Lvl := ℕ) (Val := Elt F) spec0 c : sProp 𝕄)
      = iprop(anyAt (F := F) xV c ∗ anyAt (F := F) tV c ∗ anyAt (F := F) aV c ∗ anyAt (F := F) bV c ∗ bigSep Finset.univ fun p : Fin 4 => anyAt (F := F) (stat p) c) := by
  rw [scopedRest0_eq, bigSep_fin4]
  unfold anyAt stat
  simp only [Memref.view_whole, View.set_whole]
omit [FloatOps F] in
theorem args_eq (c : Dev nD) :
    (Pipeline.unscopedRestP (Ix := Unit) (Name := ℕ) (U := UU) (Lvl := ℕ) Pipeline.Prefetch.none spec0 c (fun b => m ((c : Thread nD τ).loc b)) : sProp 𝕄) = args m c := by
  rw [Pipeline.unscopedRestP_none, unscopedRest0_eq]
  unfold args argAt
  simp only [Memref.view_whole, View.set_whole]

omit [FloatOps F] in
theorem open_x (c : Dev nD) : anyAt (F := F) xV c ⊢ (bigSep Finset.univ fun p : Fin 4 => iprop(∃ f, (xP p).view.loc (c : Thread nD τ) ↦[(xP p).view.set]{fullShare} f) : sProp 𝕄) := by
  unfold anyAt
  iintro ⟨%f, H⟩
  ihave H := (Entails.of_eq (pieces_pts xV c f)) $$ H
  iapply (all_mono (F := F) fun p => (show ((xV.view.loc (c : Thread nD τ) ↦[(xV.view.slice (pieceR p)).set]{fullShare} f) : sProp 𝕄)
    ⊢ iprop(∃ f, (xP p).view.loc (c : Thread nD τ) ↦[(xP p).view.set]{fullShare} f) from by iintro H; iexists f; iexact H))
  iexact H
omit [FloatOps F] in
theorem open_out (c : Dev nD) : anyAt (F := F) oV c ⊢ (bigSep Finset.univ fun p : Fin 4 => outE (F := F) c p : sProp 𝕄) := by
  unfold anyAt outE
  iintro ⟨%f, H⟩
  ihave H := (Entails.of_eq (pieces_pts oV c f)) $$ H
  iapply (all_mono (F := F) fun p => (show (oV.view.loc (c : Thread nD τ) ↦[(oV.view.slice (pieceR p)).set]{fullShare} f : sProp 𝕄)
    ⊢ iprop(∃ f, oV.view.loc (c : Thread nD τ) ↦[(oV.view.slice (pieceR p)).set]{fullShare} f) from by iintro H; iexists f; iexact H))
  iexact H
omit [FloatOps F] in
theorem open_stat (c : Dev nD) (p : Fin 4) :
    anyAt (F := F) (stat p) c ⊢ (iprop(slotE (F := F) c p c ∗ bigSep Finset.univ fun k : Fin 3 => slotE (F := F) c p (peer k c)) : sProp 𝕄) := by
  rw [← bigSep_mesh c fun j => slotE (F := F) c p j]
  unfold anyAt slotE
  iintro ⟨%f, H⟩
  ihave H := (Entails.of_eq (slots_pts p c f)) $$ H
  iapply (all_mono (F := F) fun j => (show ((stat p).view.loc (c : Thread nD τ) ↦[((stat p).view.slice (slotR j)).set]{fullShare} f : sProp 𝕄)
    ⊢ iprop(∃ f, (stat p).view.loc (c : Thread nD τ) ↦[((stat p).view.slice (slotR j)).set]{fullShare} f) from by iintro H; iexists f; iexact H))
  iexact H

/-- A piece of `x` copied, in terms of the whole buffers. -/
theorem close_piece (c : Dev nD) (p : Fin 4) :
    moved m (xH p) (xP p) c = iprop((xV.view.loc (c : Thread nD τ) ↦[(xV.view.slice (pieceR p)).set]{fullShare} xV.view.rep (xA.view.read (Elt F) (m (xA.view.loc (c : Thread nD τ)))))
      ∗ (xA.view.loc (c : Thread nD τ) ↦[(xA.view.slice (pieceR p)).set]{fullShare} m (xA.view.loc (c : Thread nD τ)))) := by
  unfold moved
  refine congrArg (fun X : sProp 𝕄 => iprop(X ∗ (xA.view.loc (c : Thread nD τ) ↦[(xA.view.slice (pieceR p)).set]{fullShare} m (xA.view.loc (c : Thread nD τ))))) ?_
  refine pts_read (xV.view.slice (pieceR p)) c fullShare _ _ ?_
  rw [show ((xV.view.slice (pieceR p)).read (Elt F) ((xP p).view.rep ((xH p).view.read (Elt F) (m ((xH p).view.loc (c : Thread nD τ)))))) = _ from View.read_rep (xP p).view _]
  funext y
  show _ = xV.view.read (Elt F) (xV.view.rep _) ((pieceR p).emb y)
  rw [View.read_rep]
  rfl

theorem close_x (c : Dev nD) : (bigSep Finset.univ fun p : Fin 4 => moved m (xH p) (xP p) c) ⊢ iprop(anyAt (F := F) xV c ∗ argAt m xA c) := by
  rw [bigSep_congr fun p _ => close_piece m c p, bigSep_sep', ← pieces_pts xV c, ← pieces_pts xA c]
  unfold anyAt argAt
  iintro ⟨Hv, Ha⟩
  isplitl [Hv]
  · iexists _; iexact Hv
  iexact Ha
theorem close_stat (c : Dev nD) (p : Fin 4) : (bigSep Finset.univ fun j : Fin 4 => slotP m c p j fullShare) ⊢ anyAt (F := F) (stat p) c := by
  unfold slotP anyAt
  rw [← slots_pts p c]
  iintro H
  iexists _; iexact H
theorem close_out (c : Dev nD) : (bigSep Finset.univ fun p : Fin 4 => outP m c p) ⊢ owns (c : Thread nD τ) oV fullShare (outV m c) := by
  unfold outP owns
  rw [← pieces_pts oV c]
  iintro H
  iexists _
  isplitr
  · ipureintro; exact View.read_rep oV.view _
  iexact H
theorem close_op {s : Shape} (src : Memref sig .tc .hbm s .f32) (dst : Memref sig .tc .vmem s .f32) (c : Dev nD) :
    moved m src dst c ⊢ iprop(anyAt (F := F) dst c ∗ argAt m src c) := by
  unfold moved anyAt argAt
  iintro ⟨Hd, Hs⟩
  isplitl [Hd]
  · iexists _; iexact Hd
  iexact Hs

/-! ## Into the body -/

/-- The credit a device is launched with. -/
def credits (c : Dev nD) : sProp 𝕄 :=
  iprop(cred (tallyAt (barCell c) () 3) ∗ bigSep Finset.univ fun p : Fin 4 => bigSep Finset.univ fun k : Fin 3 => cred (tallyAt (ownCell c (rcv p (peer k c))) () Ns))

/-- The semaphores of a device no transfer arrives on: those for its own slots. -/
def spare (c : Dev nD) : sProp 𝕄 := bigSep Finset.univ fun p : Fin 4 => atPos ER (ownCell c (rcv p c)) 0 ∅ 0

theorem amt_rcv (p j : Fin 4) : amtOf (.inr (rcv p j)) = Ns := rfl

theorem argx_pieces (c : Dev nD) :
    argAt m xA c = bigSep Finset.univ fun p : Fin 4 => ((xH p).view.loc (c : Thread nD τ) ↦[(xH p).view.set]{fullShare} m ((xH p).view.loc (c : Thread nD τ))) := by
  unfold argAt
  exact pieces_pts xA c _

theorem enter (c : Dev nD) :
    iprop((bigSep Finset.univ fun a : Key => atPos ER (cell c a) 0 ∅ 0) ∗ payToks (F := F) c ∗ credits (F := F) c ∗ args m c
        ∗ Pipeline.scopedRest (Ix := Unit) (Name := ℕ) (U := UU) (Lvl := ℕ) (Val := Elt F) spec0 c ∗ anyAt (F := F) oV c)
      ⊢ iprop(body0 m c ∗ spare (F := F) c) := by
  rw [key_split, own_split c, scratch_eq]
  unfold payToks credits args spare body0 piece0 opers0 oper0 greet later ready
  rw [argx_pieces]
  simp only [bigSep_sep', amt_rcv, bigSep_fin3 (F := F) fun i => dutyTok ER (ownCell c (opn i)) 0 0, bigSep_fin3 (F := F) fun i => atPos ER (cell c (.inr (opn i))) 0 ∅ 0]
  iintro ⟨⟨Abar, Axin, ⟨Aop0, Aop1, Aop2⟩, Asnd, Aself, Arcv⟩, ⟨Tbar, Txin, ⟨Top0, Top1, Top2⟩, Tsnd⟩, ⟨Cbar, Crcv⟩, ⟨Gx, Gt, Ga, Gb⟩, ⟨Vx, Vt, Va, Vb, Vs⟩, Ho⟩
  ihave Vx := (open_x (F := F) c) $$ Vx
  ihave Ho := (open_out (F := F) c) $$ Ho
  ihave Vs := (all_mono (F := F) fun p => open_stat (F := F) c p) $$ Vs
  ihave Vs := (Entails.of_eq (bigSep_sep' Finset.univ (fun p : Fin 4 => slotE (F := F) c p c) (fun p => bigSep Finset.univ fun k : Fin 3 => slotE (F := F) c p (peer k c)))) $$ Vs
  icases Vs with ⟨Sown, Soth⟩
  ihave Soth := (Entails.of_eq (bigSep_univ_comm fun (p : Fin 4) (k : Fin 3) => slotE (F := F) c p (peer k c))) $$ Soth
  unfold argAt anyAt
  isplitr [Aself]
  · isplitl [Gx Vx Txin Axin Sown Tsnd Asnd Crcv Arcv Ho]
    · isplitl [Gx Vx Txin Axin]
      · isplitl [Gx]; · iexact Gx
        isplitl [Vx]; · iexact Vx
        isplitl [Txin]; · iexact Txin
        iexact Axin
      isplitl [Sown]; · iexact Sown
      isplitl [Tsnd Asnd]
      · isplitl [Tsnd]; · iexact Tsnd
        iexact Asnd
      isplitl [Crcv Arcv]
      · isplitl [Crcv]; · iexact Crcv
        iexact Arcv
      iexact Ho
    isplitl [Gt Vt Top0 Aop0 Ga Va Top1 Aop1 Gb Vb Top2 Aop2]
    · isplitl [Gt Vt Top0 Aop0]
      · isplitl [Gt]; · iexact Gt
        isplitl [Vt]; · iexact Vt
        isplitl [Top0]; · iexact Top0
        iexact Aop0
      isplitl [Ga Va Top1 Aop1]
      · isplitl [Ga]; · iexact Ga
        isplitl [Va]; · iexact Va
        isplitl [Top1]; · iexact Top1
        iexact Aop1
      isplitl [Gb]; · iexact Gb
      isplitl [Vb]; · iexact Vb
      isplitl [Top2]; · iexact Top2
      iexact Aop2
    isplitl [Tbar Soth]
    · isplitl [Tbar]; · iexact Tbar
      iexact Soth
    isplitl [Cbar]; · iexact Cbar
    iexact Abar
  iexact Aself

/-! ## Out of the body -/

theorem spare_close (c : Dev nD) : iprop(records m ∗ spare (F := F) c) ⊢ |={Set.univ}=> bigSep Finset.univ fun p : Fin 4 => semVal (ownCell c (rcv p c)) 0 := by
  have h (p : Fin 4) : iprop(records m ∗ atPos ER (ownCell c (rcv p c)) 0 ∅ 0) ⊢ (|={Set.univ}=> semVal (ownCell c (rcv p c)) 0 : sProp 𝕄) := by
    iintro ⟨#HR, Hat⟩
    ihave HI := (record_own m c (rcv p c)) $$ HR
    icases HI with ⟨%κ, #HI, -⟩
    iapply (Rounds.cell_close ER (sched m) (g := ownCell c (rcv p c)) (κ := κ) (Set.mem_univ κ) (fun h => h) (R := 0) (fun r _ => by
      rcases Nat.eq_zero_or_pos r with rfl | hr
      · rw [duties_own]; exact if_pos rfl
      · exact duties_later m _ r hr))
    isplitr; · iexact HI
    iexact Hat
  unfold spare
  exact (bigSep_with_persistent fun p _ => h p).trans (bigSep_fupd _ _)

theorem leave (c : Dev nD) :
    iprop(body5 m c ∗ bigSep Finset.univ fun p : Fin 4 => semVal (ownCell c (rcv p c)) 0)
      ⊢ iprop((unscopedSems0 c ∗ args m c) ∗ Pipeline.ownSems0 (Ix := Unit) (Name := ℕ) (U := UU) (Lvl := ℕ) (Val := Elt F) (τ := τ) osem c
        ∗ Pipeline.scopedRest (Ix := Unit) (Name := ℕ) (U := UU) (Lvl := ℕ) (Val := Elt F) spec0 c ∗ owns (c : Thread nD τ) oV fullShare (outV m c)) := by
  rw [ownSems0_eq, unscopedSems0_eq, own_split c, scratch_eq]
  unfold args body5 piece5 opers2 oper2
  simp only [bigSep_sep', bigSep_fin3 (F := F) fun i => semVal (ownCell c (opn i)) 0]
  iintro ⟨⟨⟨⟨Zx, Mx⟩, Zs, Zr, Sl, Ho⟩, ⟨⟨Z0, M0⟩, ⟨Z1, M1⟩, Z2, M2⟩, Zb⟩, Zself⟩
  ihave Mx := (close_x m c) $$ Mx
  icases Mx with ⟨Vx, Gx⟩
  ihave M0 := (close_op m tA tV c) $$ M0
  icases M0 with ⟨Vt, Gt⟩
  ihave M1 := (close_op m aA aV c) $$ M1
  icases M1 with ⟨Va, Ga⟩
  ihave M2 := (close_op m bA bV c) $$ M2
  icases M2 with ⟨Vb, Gb⟩
  isplitl [Zb Gx Gt Ga Gb]
  · isplitl [Zb]; · iexact Zb
    isplitl [Gx]; · iexact Gx
    isplitl [Gt]; · iexact Gt
    isplitl [Ga] <;> iassumption
  isplitl [Zx Zs Zr Z0 Z1 Z2 Zself]
  · isplitl [Zx]; · iexact Zx
    isplitl [Z0 Z1 Z2]
    · isplitl [Z0]; · iexact Z0
      isplitl [Z1] <;> iassumption
    isplitl [Zs]; · iexact Zs
    isplitl [Zself] <;> iassumption
  isplitl [Vx Vt Va Vb Sl]
  · isplitl [Vx]; · iexact Vx
    isplitl [Vt]; · iexact Vt
    isplitl [Va]; · iexact Va
    isplitl [Vb]; · iexact Vb
    iapply (all_mono (F := F) fun p => close_stat m c p); iexact Sl
  iapply (close_out m c); iexact Ho

end Cert.KernelIdeal.Norm

end
-- ==== Proof.Launch.lean ====
/-
The whole program: launched from any memory with zero counters, it ends with each device's result computed, its
arguments unchanged and every counter at zero.
-/
module

public import proofs.«01_k».proof.Proof.Entry
public import Idealize.ShloMosaic.Lib.Pipeline.Launch
public import Idealize.ShloMosaic.Lib.Pipeline.Kit
public import Idealize.ShloMosaic.Lib.Pipeline.ValueKit.Geometry
public import Idealize.ShloMosaic.Lib.Pipeline.CollectiveSegs
public import Idealize.ShloMosaic.Lib.Quiescent

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's contract -/

/-- What a device starts from, its scratch buffers apart, -/
def start (c : Dev nD) : sProp 𝕄 := iprop(G' m c ∗ credits (F := F) c ∗ levAts L lv ∗ args m c)
/-- with them, -/
def Φ₀ (c : Dev nD) : sProp 𝕄 :=
  iprop(start m c ∗ Pipeline.scopedRest (Ix := Unit) (Name := ℕ) (U := UU) (Lvl := ℕ) (Val := Elt F) spec0 c)
/-- and what it ends with. -/
def Φ₁ (c : Dev nD) : sProp 𝕄 :=
  iprop((unscopedSems0 c ∗ args m c) ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => owed₀ c
    | ⟨_ + 1, _⟩ => 0

omit [FloatOps F] in
theorem owns_any (c : Dev nD) (X : Vec F S4x512x256 .f32) : (owns (c : Thread nD τ) oV fullShare X : sProp 𝕄) ⊢ anyAt (F := F) oV c := by
  unfold owns anyAt
  iintro ⟨%f, -, H⟩
  iexists f
  iexact H

/-- The body from what a device starts with to what it ends with, its output block filled. -/
theorem run_device (c : Dev nD) (Q : PUnit → sProp 𝕄) :
    iprop(Φ₀ m c ∗ owing c (owed₀ c) ∗ anyAt (F := F) oV c ∗ (iprop(Φ₁ m c ∗ owing c 0 ∗ owns (c : Thread nD τ) oV fullShare (outV m c)) -∗ Q ⟨⟩)) ⊢ Run c body Q := by
  unfold Φ₀ Φ₁ start G'
  iintro ⟨⟨⟨⟨#HR, Hat, Htok⟩, Hcr, #Hlev, Hargs⟩, Hscr⟩, Ho, Hout, Hk⟩
  ihave H := (enter m c) $$ [Hat Htok Hcr Hargs Hscr Hout]
  · isplitl [Hat]; · iexact Hat
    isplitl [Htok]; · iexact Htok
    isplitl [Hcr]; · iexact Hcr
    isplitl [Hargs]; · iexact Hargs
    isplitl [Hscr] <;> iassumption
  icases H with ⟨H0, Hsp⟩
  unfold Run
  iapply wp_fupd
  iapply (run_body m c)
  isplitr; · iexact HR
  isplitr; · iexact Hlev
  isplitl [Ho]; · iexact Ho
  isplitl [H0]; · iexact H0
  iintro ⟨H5, Ho⟩
  imod (spare_close m c) $$ [Hsp] with Hz
  · isplitr; · iexact HR
    iexact Hsp
  imodintro
  ihave H := (leave m c) $$ [H5 Hz]
  · isplitl [H5] <;> iassumption
  icases H with ⟨Hu, Hos, Hscr, Hout⟩
  iapply Hk
  isplitl [Hu Hos Hscr]
  · isplitl [Hu]; · iexact Hu
    isplitl [Hos] <;> iassumption
  isplitl [Ho] <;> iassumption

theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc ∗ (∃ d, owns (c : Thread nD τ) oV fullShare ((dats m 0 c).before (0 : Fin 1) t0_0 d)))
    ⊢ Run c (cc0_body (F := F) xA (Memref.isWhole_whole _) tA (Memref.isWhole_whole _) aA (Memref.isWhole_whole _) bA (Memref.isWhole_whole _)
      oV (Memref.isWhole_whole _) xV (Memref.isWhole_whole _) tV (Memref.isWhole_whole _) aV (Memref.isWhole_whole _) bV (Memref.isWhole_whole _)
      (Memref.whole cc0_scratch4) (Memref.isWhole_whole _) (Memref.whole cc0_scratch5) (Memref.isWhole_whole _) (Memref.whole cc0_scratch6) (Memref.isWhole_whole _)
      (Memref.whole cc0_scratch7) (Memref.isWhole_whole _) cc0_scratch8 cc0_scratch9 cc0_scratch10 cc0_scratch11)
      (fun _ => iprop(Φ₁ m c ∗ (dats m 0 c).owesAt () t0_0.succ ∗ owns (c : Thread nD τ) oV fullShare (outV m c)))
  rw [body_eq]
  unfold Dat.owesAt Pipeline.owesWithin
  iintro ⟨HΦ, ⟨%W, %hW, HO⟩, ⟨%d, Hst⟩⟩
  iapply (run_device m c)
  isplitl [HΦ]; · iexact HΦ
  isplitl [HO]
  · unfold owing; iexists W; iexact HO
  isplitl [Hst]; · iapply (owns_any c _); iexact Hst
  unfold owing
  iintro ⟨HΦ, ⟨%W', HO⟩, Hout⟩
  isplitl [HΦ]; · iexact HΦ
  isplitl [HO]
  · iexists W'
    isplitr; · ipureintro; exact fun _ _ => Or.inl trivial
    iexact HO
  iexact Hout

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [args_eq]
  unfold start credits
  iintro ⟨Ha, Hlev, Hcr, -, HG⟩
  ihave Hc := (creds (F := F) c) $$ Hcr
  imodintro
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := .rfl

theorem waits (c : Dev nD) : (levAts L lv : sProp 𝕄) ⊢ Pipeline.cellsWaits cfgs (dats m) () 0 c :=
  Pipeline.cellsWaits_intro cfgs (dats m) () 0 c fun w s t => by
    have hs : lvS (.dma ((cfg0.win w).sem s)) = 0 := by fin_cases w; fin_cases s; decide
    rcases t with ⟨_ | _, ht⟩
    · exact mayWait_owed₀ c _ hs
    · exact mayWait_owedL c _ [] (by rw [hs]; exact Nat.zero_le 1)

/-! ## What is read at the end -/

/-- An operand's buffer read at the end holds what it held at launch. -/
theorem arg_read {s : Shape} (r : Memref sig .tc .hbm s .f32) (hr : r.view.set = Finset.univ) (c : Dev nD) (s' : Phys nD τ sig (Elt F)) :
    iprop(SI s' ∗ argAt m r c) ⊢ (iprop(⌜s'.mem.mem (r.view.loc (c : Thread nD τ)) = m (r.view.loc (c : Thread nD τ))⌝ ∗ SI s') : sProp 𝕄) := by
  unfold argAt
  rw [hr]
  iintro ⟨HSI, H⟩
  ihave H := (persistent_entails_right (SI_pointsTo_agree (st := s') (ℓ := r.view.loc (c : Thread nD τ)) (I := Finset.univ) (q := fullShare) (f := m (r.view.loc (c : Thread nD τ))))) $$ [HSI H]
  · isplitl [HSI] <;> iassumption
  icases H with ⟨%h, HSI, -⟩
  isplitr
  · ipureintro; exact funext fun i => h i (Finset.mem_univ i)
  iexact HSI

/-- What is read of a device: its unscoped counters at zero and its arguments unchanged. -/
def QY (c : Dev nD) (s : MemSt nD τ sig (Elt F)) : Prop :=
  (∀ sm : SemLoc sig, sm.isScoped .tc = false → s.sem ((c.tc : Thread nD τ), sm) = 0)
    ∧ s.mem (xA.view.loc (c : Thread nD τ)) = m (xA.view.loc (c : Thread nD τ)) ∧ s.mem (tA.view.loc (c : Thread nD τ)) = m (tA.view.loc (c : Thread nD τ))
    ∧ s.mem (aA.view.loc (c : Thread nD τ)) = m (aA.view.loc (c : Thread nD τ)) ∧ s.mem (bA.view.loc (c : Thread nD τ)) = m (bA.view.loc (c : Thread nD τ))

theorem read_end (c : Dev nD) (s' : Phys nD τ sig (Elt F)) :
    iprop((unscopedSems0 c ∗ args m c) ∗ emp ∗ SI s') ⊢ |={Set.univ}=> (iprop(⌜QY m c s'.mem⌝ ∗ SI s') : sProp 𝕄) := by
  unfold args
  iintro ⟨⟨Hu, Hx, Ht, Ha, Hb⟩, -, HSI⟩
  ihave H := (arg_read m xA (View.set_whole _) c s') $$ [HSI Hx]
  · isplitl [HSI] <;> iassumption
  icases H with ⟨%hx, HSI⟩
  ihave H := (arg_read m tA (View.set_whole _) c s') $$ [HSI Ht]
  · isplitl [HSI] <;> iassumption
  icases H with ⟨%ht, HSI⟩
  ihave H := (arg_read m aA (View.set_whole _) c s') $$ [HSI Ha]
  · isplitl [HSI] <;> iassumption
  icases H with ⟨%ha, HSI⟩
  ihave H := (arg_read m bA (View.set_whole _) c s') $$ [HSI Hb]
  · isplitl [HSI] <;> iassumption
  icases H with ⟨%hb, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, hx, ht, ha, hb⟩
  iexact HSI

theorem final_out (c : Dev nD) : (dats m 0 c).arrAt 0 cfg0.N = outV m c := by
  refine (dats m 0 c).arrAt_eq_of_after_last 0 t0_0 (by decide +kernel) _ fun j => ?_
  rfl

/-! ## The run -/

/-- Each device's result, its arguments unchanged. -/
def QC : PUnit × MemSt nD τ sig (Elt F) → Prop := fun r => ∀ c : Dev nD,
  r.2.mem ((c : Thread nD τ).loc main_v1) = outV m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)

/-- Whatever floats are, from any memory with zero counters every fair execution of the program on the four devices
    ends, with each device's result computed, its arguments unchanged, and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_norm m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QY m) (hY := read_end m)
    (hQ := fun _ h hs => ⟨fun c => ⟨((h c).1 0).trans (final_out m c), (h c).2.2.2⟩, sem_eq_zero hs fun c => (h c).2.2.1⟩)

end Cert.KernelIdeal.Norm

end
-- ==== Proof.Claims.lean ====
/-
The claims that every program runs and leaves the machine as it found it.
-/
module

public import proofs.«01_k».proof.Defs
public import proofs.«01_k».proof.Proof.Launch
public import proofs.«01_k».proof.Proof.Gen.Kernel
public import proofs.«01_k».proof.Proof.Gen.Pre_x_finite_KernelIdeal
public import proofs.«01_k».proof.Proof.Gen.Pre_x_finite_ReferenceIdeal
public import proofs.«01_k».proof.Proof.Gen.ReferenceIdeal.Run
public import Idealize.ShloMosaic.Lib.Quiescent

@[expose] public section

set_option maxRecDepth 16384

noncomputable section

open Idealize.ShloMosaic Idealize.SL.Sem

namespace Cert.Proof

/-- The idealized kernel runs, its arguments unchanged and every counter back at zero. -/
theorem frame_ideal : Cert.quiescent_KernelIdeal := fun m ρ _ =>
  (θ_run Cert.KernelIdeal.defs _ _).mono (fun _ h => ⟨fun c => (h.1 c).2, h.2⟩) (Cert.KernelIdeal.Norm.run_main (F := Ideal) m ρ)

/-- The same from the memories whose `x` is finite. -/
theorem frame_ideal_pre : Cert.quiescent_KernelIdeal_pre_x_finite_KernelIdeal := fun m ρ _ => frame_ideal m ρ trivial

/-- The two printed kernels have one body table, -/
theorem bodies_eq : Cert.Kernel.defs₀ (F := Bits) = Cert.KernelIdeal.defs₀ (F := Bits) :=
  congrArg Defs.onTc (funext fun ℓ => funext fun x => by
    match ℓ, x with
    | 0, (t, s) => rfl
    | ⟨_ + 1, h⟩, _ => exact absurd h (Nat.not_lt.2 (Nat.le_add_left _ _)))

/-- with the pipelines too. -/
theorem table_eq : Cert.Kernel.defs (F := Bits) = Cert.KernelIdeal.defs (F := Bits) :=
  congrArg (Pipeline.defs (Cert.Kernel.pcfgs (F := Bits))) bodies_eq

/-- The kernel as printed runs, its arguments unchanged and every counter back at zero. -/
theorem frame_kernel : Cert.quiescent_Kernel := fun m ρ _ => by
  rw [table_eq]
  exact (θ_run Cert.KernelIdeal.defs _ _).mono (fun _ h => ⟨fun c => (h.1 c).2, h.2⟩) (Cert.KernelIdeal.Norm.run_main (F := Bits) m ρ)

/-- The reference runs, its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories whose `x` is finite. -/
theorem frame_reference_pre : Cert.quiescent_ReferenceIdeal_pre_x_finite_ReferenceIdeal := fun m ρ _ => frame_reference m ρ trivial

/-- Idealizing the kernel replaced no operation. -/
theorem preserves : Cert.preserves_Kernel_KernelIdeal := trivial

end Cert.Proof

end
-- ==== Proof.KernelValue.lean ====
/-
What the kernel's result is at an index, over the extended reals.
-/
module

public import proofs.«01_k».proof.Proof.Stages
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

@[expose] public section

set_option maxRecDepth 16384

noncomputable section

namespace Cert.KernelIdeal.Norm

open Cert.KernelIdeal Cert.KernelIdeal.Gen
open Idealize.ShloMosaic

/-! ## The payloads at an index -/

/-- The normalised, scaled and shifted entry. -/
theorem pay15_at (u v : FVec Ideal S4x1x256 .f32) (e r : FVec Ideal S4x128 .f32) (x : Vec Ideal S4x128x256 .f32) (b : Fin 4) (k : Fin 128) (l : Fin 256) :
    k0_pay15 u v e r x (ix3 b k l) = (x (ix3 b k l) - e (ix2 b k)) * r (ix2 b k) * u (ix3 b 0 l) + v (ix3 b 0 l) := by
  pointwise [k0_pay15]

/-- The statistics added over the devices. -/
theorem pay12_at (s0 s1 s2 s3 : Vec Ideal S1x2x4x128 .f32) (h : Fin 2) (b : Fin 4) (k : Fin 128) :
    k0_pay12 s0 s1 s2 s3 (ix3 h b k) = s0 (ix4 0 h b k) + s1 (ix4 0 h b k) + s2 (ix4 0 h b k) + s3 (ix4 0 h b k) := by
  pointwise [k0_pay12]

/-- A row's mean. -/
theorem pay13_at (s0 s1 s2 s3 : Vec Ideal S1x2x4x128 .f32) (b : Fin 4) (k : Fin 128) :
    k0_pay13 s0 s1 s2 s3 (ix2 b k) = k0_pay12 s0 s1 s2 s3 (ix3 0 b k) * Ideal.ofBits .f32 0x3A800000#32 := by
  pointwise [k0_pay13]

/-- The reciprocal of a row's deviation. -/
theorem pay14_at (s0 s1 s2 s3 : Vec Ideal S1x2x4x128 .f32) (b : Fin 4) (k : Fin 128) :
    k0_pay14 s0 s1 s2 s3 (ix2 b k) = Ideal.rsqrt (k0_pay12 s0 s1 s2 s3 (ix3 1 b k) * Ideal.ofBits .f32 0x3A800000#32
      - k0_pay13 s0 s1 s2 s3 (ix2 b k) * k0_pay13 s0 s1 s2 s3 (ix2 b k) + Ideal.ofBits .f32 0x3727C5AC#32) := by
  pointwise [k0_pay14]

/-- One plus the scale, -/
theorem pay10_at (t : Vec Ideal S4x128 .f32) (w : Vec Ideal S128x256 .f32) (b : Fin 4) (l : Fin 256) :
    k0_pay10 t w (ix3 b 0 l) = 1 + ∑ q : Fin 128, t (ix2 b q) * w (ix2 q l) := by
  pointwise [k0_pay10]

/-- and the shift. -/
theorem pay11_at (t : Vec Ideal S4x128 .f32) (w : Vec Ideal S128x256 .f32) (b : Fin 4) (l : Fin 256) :
    k0_pay11 t w (ix3 b 0 l) = ∑ q : Fin 128, t (ix2 b q) * w (ix2 q l) := by
  pointwise [k0_pay11]

/-- A row's sum over a device's columns, -/
theorem pay1_at (x : Vec Ideal S4x128x256 .f32) (b : Fin 4) (k : Fin 128) :
    k0_pay1 x (rowIx b k) = ∑ l : Fin 256, x (ix3 b k l) := by
  have h : rowIx b k = ix4 0 0 b k := by funext a; fin_cases a <;> rfl
  rw [h]
  pointwise [k0_pay1]

/-- and the sum of its squares. -/
theorem pay2_at (x : Vec Ideal S4x128x256 .f32) (b : Fin 4) (k : Fin 128) :
    k0_pay2 x (rowIx b k) = ∑ l : Fin 256, x (ix3 b k l) * x (ix3 b k l) := by
  have h : rowIx b k = ix4 0 0 b k := by funext a; fin_cases a <;> rfl
  rw [h]
  pointwise [k0_pay2]

/-! ## The result at an index -/

variable (m : (ℓ : Loc nD τ sig) → Buf (Elt Ideal) ℓ)

/-- The devices' operands at launch. -/
def argX (c : Dev nD) : Vec Ideal S4x512x256 .f32 := m ((c.tc : Thread nD τ).loc main_arg0)
def argT (c : Dev nD) : Vec Ideal S4x128 .f32 := m ((c.tc : Thread nD τ).loc main_arg1)
def argA (c : Dev nD) : Vec Ideal S128x256 .f32 := m ((c.tc : Thread nD τ).loc main_arg2)
def argB (c : Dev nD) : Vec Ideal S128x256 .f32 := m ((c.tc : Thread nD τ).loc main_arg3)

/-- Row `k` of piece `p`. -/
def rowOf (p : Fin 4) (k : Fin 128) : Fin 512 := ⟨128 * p.val + k.val, by have := p.isLt; have := k.isLt; omega⟩

/-- A piece's entry is the operand's. -/
theorem xblk_at (p : Fin 4) (j : Dev nD) (b : Fin 4) (k : Fin 128) (l : Fin 256) : xblk m p j (ix3 b k l) = argX m j (ix3 b (rowOf p k) l) := by
  show m ((j.tc : Thread nD τ).loc main_arg0) ((pieceR p).emb (ix3 b k l)) = argX m j _
  refine congrArg (argX m j) (funext fun a => Fin.ext ?_)
  rw [Rect.emb_apply]
  fin_cases a <;> simp [rowOf]

theorem tblk_eq (c : Dev nD) : tblk m c = argT m c := rfl
theorem ablk_eq (c : Dev nD) : ablk m c = argA m c := rfl
theorem bblk_eq (c : Dev nD) : bblk m c = argB m c := rfl

/-- A slot's entries: the row's sum, -/
theorem slot_sum (p j : Fin 4) (b : Fin 4) (k : Fin 128) : slotV m p j (ix4 0 0 b k) = ∑ l : Fin 256, argX m j (ix3 b (rowOf p k) l) := by
  have h : (slotR j).emb (ix4 0 0 b k) = ix4 j 0 b k := funext fun a => Fin.ext (by
    rw [Rect.emb_apply]
    fin_cases a <;> simp)
  unfold slotV
  rw [h]
  show k0_pay1 (xblk m p j) (rowIx b k) = _
  rw [pay1_at]
  exact Finset.sum_congr rfl fun l _ => xblk_at m p j b k l

/-- and the sum of its squares. -/
theorem slot_squares (p j : Fin 4) (b : Fin 4) (k : Fin 128) :
    slotV m p j (ix4 0 1 b k) = ∑ l : Fin 256, argX m j (ix3 b (rowOf p k) l) * argX m j (ix3 b (rowOf p k) l) := by
  have h : (slotR j).emb (ix4 0 1 b k) = ix4 j 1 b k := funext fun a => Fin.ext (by
    rw [Rect.emb_apply]
    fin_cases a <;> simp)
  unfold slotV
  rw [h]
  show k0_pay2 (xblk m p j) (rowIx b k) = _
  rw [pay2_at]
  exact Finset.sum_congr rfl fun l _ => by rw [xblk_at]

/-- A row's sum over all columns of all devices, and the sum of its squares. -/
def rowSum (b : Fin 4) (r : Fin 512) : EReal := ∑ j : Fin 4, ∑ l : Fin 256, argX m j (ix3 b r l)
def rowSquares (b : Fin 4) (r : Fin 512) : EReal := ∑ j : Fin 4, ∑ l : Fin 256, argX m j (ix3 b r l) * argX m j (ix3 b r l)

/-- An entry of the result. -/
theorem outV_at (c : Dev nD) (b : Fin 4) (r : Fin 512) (l : Fin 256) :
    outV m c (ix3 b r l)
      = (argX m c (ix3 b r l) - rowSum m b r * Ideal.ofBits .f32 0x3A800000#32)
        * Ideal.rsqrt (rowSquares m b r * Ideal.ofBits .f32 0x3A800000#32
          - (rowSum m b r * Ideal.ofBits .f32 0x3A800000#32) * (rowSum m b r * Ideal.ofBits .f32 0x3A800000#32) + Ideal.ofBits .f32 0x3727C5AC#32)
        * (1 + ∑ q : Fin 128, argT m c (ix2 b q) * argA m c (ix2 q l)) + ∑ q : Fin 128, argT m c (ix2 b q) * argB m c (ix2 q l) := by
  have hr : rowOf (pieceOf (ix3 b r l)) (⟨r.val % 128, Nat.mod_lt _ (by decide)⟩ : Fin 128) = r := Fin.ext (by
    show 128 * (r.val / 128) + r.val % 128 = r.val
    omega)
  have hi : inPiece (ix3 b r l) = ix3 b (⟨r.val % 128, Nat.mod_lt _ (by decide)⟩ : Fin 128) l := by
    funext a; fin_cases a <;> rfl
  unfold outV outBlk
  rw [hi, pay15_at, pay14_at, pay13_at, pay12_at, pay12_at]
  simp only [slot_sum, slot_squares, xblk_at, hr]
  unfold scaleV shiftV rowSum rowSquares
  rw [pay10_at, pay11_at, Fin.sum_univ_four, Fin.sum_univ_four, tblk_eq, ablk_eq, bblk_eq]

end Cert.KernelIdeal.Norm

end
-- ==== Proof.Rows.lean ====
/-
A row normalised in two ways, over the extended reals: from its sum and the sum of its squares, and from its mean and
the mean of its squared deviations. For a row of real numbers the two agree.
-/
module

public import Idealize.ShloMosaic.PureOps.Ideal
public import Mathlib.Algebra.BigOperators.Fin

@[expose] public section

noncomputable section

namespace Cert.Rows

open Idealize.ShloMosaic

/-! ## The constants -/

theorem inv_width : Ideal.ofBits .f32 0x3A800000#32 = ((1 / 1024 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

/-- The constant under the root is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

/-! ## Sums -/

/-- A sum over all columns, device by device. -/
theorem sum_blocks (f : Fin 1024 → EReal) :
    ∑ j : Fin 4, ∑ l : Fin 256, f ⟨j.val * 256 + l.val, by have := j.isLt; have := l.isLt; omega⟩ = ∑ n : Fin 1024, f n := by
  rw [← Fintype.sum_prod_type', ← Equiv.sum_comp (finProdFinEquiv (m := 4) (n := 256)) f]
  refine Finset.sum_congr rfl fun p _ => congrArg f (Fin.ext ?_)
  show p.1.val * 256 + p.2.val = p.2.val + 256 * p.1.val
  omega

/-- A sum of reals is real. -/
theorem coe_sum {n : Nat} (f : Fin n → ℝ) : ∑ k, (f k : EReal) = ((∑ k, f k : ℝ) : EReal) := by
  induction n with
  | zero => simp
  | succ n ih => rw [Fin.sum_univ_succ, Fin.sum_univ_succ, ih, EReal.coe_add]

/-- The mean of the squares less the square of the mean is the mean of the squared deviations. -/
theorem variance (f : Fin 1024 → ℝ) :
    (∑ k, f k * f k) * (1 / 1024) - (∑ k, f k) * (1 / 1024) * ((∑ k, f k) * (1 / 1024))
      = (∑ k, (f k - (∑ k, f k) / 1024) * (f k - (∑ k, f k) / 1024)) / 1024 := by
  generalize hS : ∑ k, f k = S
  have h : ∀ k, (f k - S / 1024) * (f k - S / 1024) = f k * f k - (S / 512) * f k + S / 1024 * (S / 1024) := fun k => by ring
  simp only [h, Finset.sum_add_distrib, Finset.sum_sub_distrib, ← Finset.mul_sum, hS, Finset.sum_const, Finset.card_univ, Fintype.card_fin, nsmul_eq_mul]
  push_cast
  ring

/-! ## The two normalisations -/

/-- From the sum and the sum of squares. -/
def bySums (f : Fin 1024 → EReal) (x : EReal) : EReal :=
  (x - (∑ k, f k) * Ideal.ofBits .f32 0x3A800000#32)
    * Ideal.rsqrt ((∑ k, f k * f k) * Ideal.ofBits .f32 0x3A800000#32
      - ((∑ k, f k) * Ideal.ofBits .f32 0x3A800000#32) * ((∑ k, f k) * Ideal.ofBits .f32 0x3A800000#32) + Ideal.ofBits .f32 0x3727C5AC#32)

/-- The mean. -/
def mean (f : Fin 1024 → EReal) : EReal := Ideal.div (∑ k, f k) (Ideal.ofBits .f32 0x44800000#32)

/-- From the mean and the squared deviations. -/
def byDeviations (f : Fin 1024 → EReal) (x : EReal) : EReal :=
  Ideal.div (x - mean f)
    (Ideal.sqrt (Ideal.div (∑ k, (f k - mean f) * (f k - mean f)) (Ideal.ofBits .f32 0x44800000#32) + Ideal.ofBits .f32 0x3727C5AC#32))

/-- For a row of reals they agree at each real. -/
theorem bySums_eq (f : Fin 1024 → ℝ) (x : ℝ) : bySums (fun k => (f k : EReal)) x = byDeviations (fun k => (f k : EReal)) x := by
  obtain ⟨e, he, hE⟩ := eps_pos
  have h1024 : (1024 : ℝ) ≠ 0 := by norm_num
  unfold bySums byDeviations mean
  rw [inv_width, width, hE]
  simp only [← EReal.coe_mul, coe_sum, Ideal.div_coe h1024, ← EReal.coe_sub, ← EReal.coe_add]
  have hv : 0 ≤ (∑ k, (f k - (∑ k, f k) / 1024) * (f k - (∑ k, f k) / 1024)) / 1024 :=
    div_nonneg (Finset.sum_nonneg fun k _ => mul_self_nonneg _) (by norm_num)
  rw [variance]
  simp only [mul_one_div]
  generalize (∑ k, (f k - (∑ k, f k) / 1024) * (f k - (∑ k, f k) / 1024)) / 1024 = v at hv ⊢
  have hp : 0 < v + e := by linarith
  have hs : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hs, ← EReal.coe_mul, ← EReal.coe_mul, one_div]

end Cert.Rows

end
-- ==== Proof.RefValue.lean ====
/-
What the reference computes, over the extended reals.
-/
module

public import proofs.«01_k».proof.Proof.Rows
public import proofs.«01_k».proof.Proof.Gen.ReferenceIdeal.Run
public import Idealize.ShloMosaic.Lib.Pointwise.Tactic
public import Idealize.ShloMosaic.Lib.Pointwise.IndexVar
public import Idealize.ShloMosaic.Lib.Pointwise.Contract
public import Idealize.ShloMosaic.Lib.Pointwise.Reduce
public import Idealize.ShloMosaic.Lib.Pointwise.ReduceUnfold
public import Idealize.ShloMosaic.Lib.Pointwise.Reshape

@[expose] public section

set_option maxRecDepth 16384

noncomputable section

namespace Cert.ReferenceIdeal.Norm

open Cert.ReferenceIdeal Cert.ReferenceIdeal.Gen
open Idealize.ShloMosaic Idealize.ShloMosaic.TcCoe Idealize.SL.Sem

/-- The reference's result: each row normalised by its mean and squared deviations, scaled and shifted. -/
def refV (x : Vec Ideal S4x512x1024 .f32) (t : Vec Ideal S4x128 .f32) (a b : Vec Ideal S128x1024 .f32) : Vec Ideal S4x512x1024 .f32 := fun i =>
  Cert.Rows.byDeviations (fun k => x (ix3 (i 0) (i 1) k)) (x i)
    * (1 + ∑ q : Fin 128, t (ix2 (i 0) q) * a (ix2 q (i 2))) + ∑ q : Fin 128, t (ix2 (i 0) q) * b (ix2 q (i 2))

/-- The reference ends with that result, its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = refV (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.ReferenceIdeal.Value.run (F := Ideal) m ρ)
  generalize (m ((c.tc : Thread nD τ).loc main_arg0)) = x
  generalize (m ((c.tc : Thread nD τ).loc main_arg1)) = t
  generalize (m ((c.tc : Thread nD τ).loc main_arg2)) = a
  generalize (m ((c.tc : Thread nD τ).loc main_arg3)) = b
  funext i
  idx_vars i
  pointwise [refV, Cert.Rows.byDeviations, Cert.Rows.mean]
  have hs : FloatOps.sitofp (F := Ideal) .f32 (0#32) = (0 : EReal) := by
    show (((0#32 : BitVec 32).toInt : ℝ) : EReal) = 0
    simp
  have hw : (0 : EReal) < Ideal.ofBits .f32 0x44800000#32 := by
    rw [Cert.Rows.width]
    norm_num
  rw [hs, sub_zero, if_pos hw]

end Cert.ReferenceIdeal.Norm

end
-- ==== Proof.Value.lean ====
/-
The kernel's result is the reference's, block by block.
-/
module

public import proofs.«01_k».proof.Defs
public import proofs.«01_k».proof.Proof.Launch
public import proofs.«01_k».proof.Proof.KernelValue
public import proofs.«01_k».proof.Proof.RefValue
public import proofs.«01_k».proof.Proof.Gen.Pre_x_finite_KernelIdeal
public import Idealize.ShloMosaic.Lib.LayoutAt

@[expose] public section

set_option maxRecDepth 16384

noncomputable section

open Idealize.ShloMosaic Idealize.SL.Sem

namespace Cert.Proof

/-- The column of the whole array that is column `l` of device `c`. -/
def col (c : Fin 4) (l : Fin 256) : Fin 1024 := ⟨c.val * 256 + l.val, by have := c.isLt; have := l.isLt; omega⟩

/-- An entry of a device's block of a rank 3 array cut along its columns. -/
theorem block3_at (v : Vec Ideal ⟨3, ![4, 512, 1024]⟩ .f32) (c : Fin 4) (b : Fin 4) (r : Fin 512) (l : Fin 256) :
    (Layout.block ⟨3, ![4, 512, 256]⟩ ⟨3, ![4, 512, 1024]⟩ 2 4 c v) (ix3 b r l) = v (ix3 b r (col c l)) :=
  congrArg v (funext fun a => Fin.ext (by
    rw [Layout.Tiles.idx_val]
    fin_cases a <;> simp [col]))

/-- and of a rank 2 array. -/
theorem block2_at (v : Vec Ideal ⟨2, ![128, 1024]⟩ .f32) (c : Fin 4) (q : Fin 128) (l : Fin 256) :
    (Layout.block ⟨2, ![128, 256]⟩ ⟨2, ![128, 1024]⟩ 1 4 c v) (ix2 q l) = v (ix2 q (col c l)) :=
  congrArg v (funext fun a => Fin.ext (by
    rw [Layout.Tiles.idx_val]
    fin_cases a <;> simp [col]))

/-- An extended real whose absolute value lies below the largest is a real. -/
theorem real_of_abs_lt {y : EReal} (h : max y (-y) < ⊤) : ∃ z : ℝ, y = z := by
  refine ⟨y.toReal, (EReal.coe_toReal ?_ ?_).symm⟩
  · rintro rfl
    simp at h
  · rintro rfl
    simp at h

open Cert.KernelIdeal Cert.KernelIdeal.Norm in
/-- From the finiteness of `x`, each entry of each device's block is a real. -/
theorem real_of_pre {m : (ℓ : Loc nD τ sig) → Buf (Elt Ideal) ℓ} (h : Cert.Pre_KernelIdeal_x_finite_KernelIdeal m)
    (c b : Fin 4) (r : Fin 512) (l : Fin 256) : ∃ z : ℝ, argX m c (ix3 b r l) = z := by
  refine real_of_abs_lt ?_
  have hc := congrFun (h c) (ix3 b r l)
  have hinf : Ideal.ofBits .f32 0x7F800000#32 = ⊤ := by simp [Ideal.ofBits, Ideal.ieee]
  by_contra hn
  have h0 : Ideal.cmp .olt (max (argX m c (ix3 b r l)) (-argX m c (ix3 b r l))) (Ideal.ofBits .f32 0x7F800000#32) = 1#1 := hc
  rw [hinf] at h0
  simp [Ideal.cmp, hn] at h0

/-- Every entry of the whole `x` is an entry of a block. -/
theorem col_surj (n : Fin 1024) : ∃ c l, n = col c l :=
  ⟨⟨n.val / 256, by have := n.isLt; omega⟩, ⟨n.val % 256, Nat.mod_lt _ (by decide)⟩, Fin.ext (by
    show n.val = n.val / 256 * 256 + n.val % 256
    omega)⟩

open Cert.KernelIdeal Cert.KernelIdeal.Norm in
/-- Where the devices hold their blocks of whole arrays, and `x` is finite, an entry of a device's result is the
    corresponding entry of the reference's on the whole arrays. -/
theorem entry {m : (ℓ : Loc nD τ sig) → Buf (Elt Ideal) ℓ} (hpre : Cert.Pre_KernelIdeal_x_finite_KernelIdeal m)
    (x : Vec Ideal ⟨3, ![4, 512, 1024]⟩ .f32) (t : Vec Ideal ⟨2, ![4, 128]⟩ .f32) (w v : Vec Ideal ⟨2, ![128, 1024]⟩ .f32)
    (hx : ∀ j, argX m j = Layout.block ⟨3, ![4, 512, 256]⟩ ⟨3, ![4, 512, 1024]⟩ 2 4 j x) (ht : ∀ j, argT m j = t)
    (hw : ∀ j, argA m j = Layout.block ⟨2, ![128, 256]⟩ ⟨2, ![128, 1024]⟩ 1 4 j w)
    (hv : ∀ j, argB m j = Layout.block ⟨2, ![128, 256]⟩ ⟨2, ![128, 1024]⟩ 1 4 j v)
    (c b : Fin 4) (r : Fin 512) (l : Fin 256) :
    outV m c (ix3 b r l) = Cert.ReferenceIdeal.Norm.refV x t w v (ix3 b r (col c l)) := by
  have hxe : ∀ j l, argX m j (ix3 b r l) = x (ix3 b r (col j l)) := fun j l => (congrFun (hx j) _).trans (block3_at x j b r l)
  have hre : ∀ n, ∃ z : ℝ, x (ix3 b r n) = z := fun n => by
    obtain ⟨j, l, rfl⟩ := col_surj n
    rw [← hxe]
    exact real_of_pre hpre j b r l
  choose f hf using hre
  have hrow : (fun n => x (ix3 b r n)) = fun n => (f n : EReal) := funext hf
  have hs : rowSum m b r = ∑ n, x (ix3 b r n) := by
    unfold rowSum
    simp only [hxe]
    exact Cert.Rows.sum_blocks fun n => x (ix3 b r n)
  have hq : rowSquares m b r = ∑ n, x (ix3 b r n) * x (ix3 b r n) := by
    unfold rowSquares
    simp only [hxe]
    exact Cert.Rows.sum_blocks fun n => x (ix3 b r n) * x (ix3 b r n)
  have hA : ∀ q, argA m c (ix2 q l) = w (ix2 q (col c l)) := fun q => (congrFun (hw c) _).trans (block2_at w c q l)
  have hB : ∀ q, argB m c (ix2 q l) = v (ix2 q (col c l)) := fun q => (congrFun (hv c) _).trans (block2_at v c q l)
  have hn : (x (ix3 b r (col c l)) - (∑ n, x (ix3 b r n)) * Ideal.ofBits .f32 0x3A800000#32)
        * Ideal.rsqrt ((∑ n, x (ix3 b r n) * x (ix3 b r n)) * Ideal.ofBits .f32 0x3A800000#32
          - ((∑ n, x (ix3 b r n)) * Ideal.ofBits .f32 0x3A800000#32) * ((∑ n, x (ix3 b r n)) * Ideal.ofBits .f32 0x3A800000#32)
          + Ideal.ofBits .f32 0x3727C5AC#32)
      = Cert.Rows.byDeviations (fun n => x (ix3 b r n)) (x (ix3 b r (col c l))) := by
    rw [hrow, hf (col c l), ← Cert.Rows.bySums_eq]
    unfold Cert.Rows.bySums
    simp only [hf]
  rw [outV_at, hs, hq, hxe, ht]
  simp only [hA, hB]
  rw [hn]
  rfl

/-- From a finite `x`, every entry of the kernel's result is the corresponding entry of the reference's. -/
theorem algebraic : Cert.algebraic_KernelIdeal_ReferenceIdeal_pre_x_finite_KernelIdeal := by
  intro m ρ m' ρ' hpre hagree
  refine ⟨_, ?_, (θ_run Cert.ReferenceIdeal.defs _ _).mono (fun _ h => h 0) (Cert.ReferenceIdeal.Norm.run_out m' ρ')⟩
  refine (θ_run Cert.KernelIdeal.defs _ _).mono (fun r h c => ⟨(h.1 c).1.trans ?_, (h.1 c).2⟩) (Cert.KernelIdeal.Norm.run_main (F := Ideal) m ρ)
  funext i
  idx_vars i
  exact (entry hpre _ _ _ _ (fun j => (hagree j).1) (fun j => (hagree j).2.1) (fun j => (hagree j).2.2.1) (fun j => (hagree j).2.2.2)
    c i0 i1 i2).trans (block3_at _ c i0 i1 i2).symm

end Cert.Proof

end
-- ==== Proof.lean ====
/-
The certificate's claim: the kernel as printed and its idealized form run, leave the arguments unchanged and every
counter at zero, and the idealized form's result is the reference's, block by block, where `x` is finite.

`Proof/Body` to `Proof/Launch` run the kernel on the four devices; `Proof/Claims` gathers what needs no value;
`Proof/KernelValue`, `Proof/Rows`, `Proof/RefValue` and `Proof/Value` compare the results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_x_finite_KernelIdeal
public import proofs.«01_k».proof.Proof.Gen.Pre_x_finite_ReferenceIdeal
public import proofs.«01_k».proof.Proof.Claims
public import proofs.«01_k».proof.Proof.Value

@[expose] public section

noncomputable section

namespace Cert.Proof

/-- All the claims together. -/
theorem claim : Cert.Claim :=
  ⟨Cert.Kernel.Gen.facts, Cert.KernelIdeal.Gen.facts, Cert.ReferenceIdeal.Gen.facts, Cert.Pre_x_finite_KernelIdeal.Gen.facts,
    Cert.Pre_x_finite_ReferenceIdeal.Gen.facts,
    frame_kernel, frame_ideal, frame_ideal_pre, frame_reference, frame_reference_pre, preserves, algebraic⟩

end Cert.Proof

end
